-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_of_weight [hPre_rows_of_weight : Cert.Pre_rows_of_weight.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_weight [hPre_rows_of_weight : Cert.Pre_rows_of_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rows_of_weight [hKernelIdeal : Cert.KernelIdeal.Facts] [hPre_rows_of_weight : Cert.Pre_rows_of_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_of_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_of_weight [hReferenceIdeal : Cert.ReferenceIdeal.Facts] [hPre_rows_of_weight : Cert.Pre_rows_of_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt128" .f32 0x3DB504F3#32 (((Real.sqrt 128)⁻¹ : ℝ) : EReal)

def algebraic_KernelIdeal_ReferenceIdeal_pre_rows_of_weight [hKernelIdeal : Cert.KernelIdeal.Facts] [hReferenceIdeal : Cert.ReferenceIdeal.Facts] [hPre_rows_of_weight : Cert.Pre_rows_of_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_of_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_of_weight : Cert.Pre_rows_of_weight.Facts),
    quiescent_Kernel (hKernel := hKernel)
    ∧ quiescent_KernelIdeal (hKernelIdeal := hKernelIdeal)
    ∧ quiescent_KernelIdeal_pre_rows_of_weight (hKernelIdeal := hKernelIdeal) (hPre_rows_of_weight := hPre_rows_of_weight)
    ∧ quiescent_ReferenceIdeal (hReferenceIdeal := hReferenceIdeal)
    ∧ quiescent_ReferenceIdeal_pre_rows_of_weight (hReferenceIdeal := hReferenceIdeal) (hPre_rows_of_weight := hPre_rows_of_weight)
    ∧ preserves_Kernel_KernelIdeal
    ∧ algebraic_KernelIdeal_ReferenceIdeal_pre_rows_of_weight (hKernelIdeal := hKernelIdeal) (hReferenceIdeal := hReferenceIdeal) (hPre_rows_of_weight := hPre_rows_of_weight)
-- ==== Pre_rows_of_weight.lean ====
abbrev S16384x128 : Shape := ⟨2, ![16384, 128]⟩
abbrev S15x128 : Shape := ⟨2, ![15, 128]⟩
abbrev S128x7 : Shape := ⟨2, ![128, 7]⟩
abbrev S_ : Shape := ⟨0, ![]⟩

class Facts : Prop where
  bcast_S_S128x7 : S_.BroadcastsInDim S128x7 (![] : Fin 0 → Fin S128x7.rank)
  reducesTo_S128x7_S_d0_1 : S128x7.ReducesTo [0, 1] S_
  h_S_ : 0 < S_.numel

variable [Facts]

def fn {F : FTy → Type} [FloatOps F] (main_arg0 : FVec F S16384x128 .f32) (main_arg1 : FVec F S15x128 .f32) (main_arg2 : IVec S128x7 32) : IVec S_ 1 :=
  let main_c : IVec S_ 32 := constantI S_ 32 0#32
  let main_v0 : IVec S128x7 32 := broadcastInDim S128x7 ![] bcast_S_S128x7 main_c
  let main_v1 : IVec S128x7 1 := cmpi .sge main_arg2 main_v0
  let main_c_0 : IVec S_ 32 := constantI S_ 32 15#32
  let main_v2 : IVec S128x7 32 := broadcastInDim S128x7 ![] bcast_S_S128x7 main_c_0
  let main_v3 : IVec S128x7 1 := cmpi .slt main_arg2 main_v2
  let main_v4 : IVec S128x7 1 := andi main_v1 main_v3
  let main_c_1 : IVec S_ 1 := constantI S_ 1 1#1
  let main_v5 : IVec S_ 1 := (fun x v => Host.reduce IntOp.andi x v reducesTo_S128x7_S_d0_1 h_S_) main_v4 main_c_1
  main_v5
-- ==== Kernel.lean ====
abbrev S16384x128 : Shape := ⟨2, ![16384, 128]⟩
abbrev S15x128 : Shape := ⟨2, ![15, 128]⟩
abbrev S128x7 : Shape := ⟨2, ![128, 7]⟩
abbrev S_ : Shape := ⟨0, ![]⟩
abbrev S1x128 : Shape := ⟨2, ![1, 128]⟩
abbrev S16x128 : Shape := ⟨2, ![16, 128]⟩
abbrev S128x16 : Shape := ⟨2, ![128, 16]⟩
abbrev S7x128 : Shape := ⟨2, ![7, 128]⟩
abbrev S8x128 : Shape := ⟨2, ![8, 128]⟩
abbrev S8x1 : Shape := ⟨2, ![8, 1]⟩
abbrev S1 : Shape := ⟨1, ![1]⟩
abbrev S2 : Shape := ⟨1, ![2]⟩
abbrev S8x127 : Shape := ⟨2, ![8, 127]⟩
abbrev S8x256 : Shape := ⟨2, ![8, 256]⟩
abbrev S16384x129 : Shape := ⟨2, ![16384, 129]⟩
abbrev S4096x128 : Shape := ⟨2, ![4096, 128]⟩
abbrev S128x256 : Shape := ⟨2, ![128, 256]⟩
abbrev S2x4096x128 : Shape := ⟨3, ![2, 4096, 128]⟩
abbrev S2x4096x1 : Shape := ⟨3, ![2, 4096, 1]⟩
abbrev S16x256 : Shape := ⟨2, ![16, 256]⟩
abbrev S1x256 : Shape := ⟨2, ![1, 256]⟩
abbrev S1x4096x128 : Shape := ⟨3, ![1, 4096, 128]⟩
abbrev S4096x1 : Shape := ⟨2, ![4096, 1]⟩
abbrev S1x4096x1 : Shape := ⟨3, ![1, 4096, 1]⟩
abbrev S4096x256 : Shape := ⟨2, ![4096, 256]⟩

abbrev nBuf : Space → Nat
  | .hbm => 24
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S15x128, .f32⟩
  | .hbm, ⟨2, _⟩ => ⟨S128x7, .i32⟩
  | .hbm, ⟨3, _⟩ => ⟨S_, .f32⟩
  | .hbm, ⟨4, _⟩ => ⟨S1x128, .f32⟩
  | .hbm, ⟨5, _⟩ => ⟨S16x128, .f32⟩
  | .hbm, ⟨6, _⟩ => ⟨S128x16, .f32⟩
  | .hbm, ⟨7, _⟩ => ⟨S7x128, .i32⟩
  | .hbm, ⟨8, _⟩ => ⟨S_, .i32⟩
  | .hbm, ⟨9, _⟩ => ⟨S1x128, .i32⟩
  | .hbm, ⟨10, _⟩ => ⟨S8x128, .i32⟩
  | .hbm, ⟨11, _⟩ => ⟨S_, .i32⟩
  | .hbm, ⟨12, _⟩ => ⟨S8x1, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S_, .i32⟩
  | .hbm, ⟨19, _⟩ => ⟨S8x1, .i32⟩
  | .hbm, ⟨20, _⟩ => ⟨S_, .i32⟩
  | .hbm, ⟨21, _⟩ => ⟨S8x127, .i32⟩
  | .hbm, ⟨22, _⟩ => ⟨S8x256, .i32⟩
  | .hbm, ⟨23, _⟩ => ⟨S16384x129, .f32⟩
  | .local _ .vmem, ⟨0, _⟩ => ⟨S8x256, .i32⟩
  | .local _ .vmem, ⟨1, _⟩ => ⟨S128x16, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S2x4096x128, .f32⟩
  | .local _ .vmem, ⟨6, _⟩ => ⟨S2x4096x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c2_i32_5 : BitVec 32 := 2#32
  let v13 : BitVec 1 := Scalar.cmpi .sge arg0 c2_i32_5
  let v14 : BitVec 32 := Scalar.extui v13
  let c0_i32_6 : BitVec 32 := 0#32
  let v15 : BitVec 1 := Scalar.cmpi .ne v14 c0_i32_6
  v15

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 2 → Nat :=
  let arg0 : BitVec 32 := BitVec.ofNat 32 (i 0).val
  let c2_i32_20 : BitVec 32 := 2#32
  let v43 : BitVec 32 := Scalar.subi arg0 c2_i32_20
  let c4096_i32_21 : BitVec 32 := 4096#32
  let v44 : BitVec 32 := Scalar.muli v43 c4096_i32_21
  let c0_i32_22 : BitVec 32 := 0#32
  ![v44.toNat, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_23 : BitVec 32 := 0#32
  let c0_i32_24 : BitVec 32 := 0#32
  ![v9.toNat, 0, 0]
def k0_off4 (i : grid0.Coords) : Fin 2 → Nat :=
  let arg0 : BitVec 32 := BitVec.ofNat 32 (i 0).val
  let c2_i32_20 : BitVec 32 := 2#32
  let v43 : BitVec 32 := Scalar.subi arg0 c2_i32_20
  let c4096_i32_21 : BitVec 32 := 4096#32
  let v44 : BitVec 32 := Scalar.muli v43 c4096_i32_21
  let c128_i32_25 : BitVec 32 := 128#32
  ![v44.toNat, 128]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_26 : BitVec 32 := 0#32
  let c0_i32_27 : BitVec 32 := 0#32
  ![v9.toNat, 0, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_10 : Index := 0#32
  let c0_11 : Index := 0#32
  ![v20.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c0_12 : Index := 0#32
  let c0_13 : Index := 0#32
  ![v25.toNat, 0, 0]
def k0_off8 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off9 (i : grid0.Coords) : Fin 2 → Nat :=
  let arg0 : BitVec 32 := BitVec.ofNat 32 (i 0).val
  let c4096_i32 : BitVec 32 := 4096#32
  let v29 : BitVec 32 := Scalar.muli arg0 c4096_i32
  let c128_i32 : BitVec 32 := 128#32
  ![v29.toNat, 128]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c0_i32_15 : BitVec 32 := 0#32
  ![v9.toNat, 0, 0]
def k0_off11 (i : grid0.Coords) : Fin 2 → Nat :=
  let arg0 : BitVec 32 := BitVec.ofNat 32 (i 0).val
  let c4096_i32 : BitVec 32 := 4096#32
  let v29 : BitVec 32 := Scalar.muli arg0 c4096_i32
  let c0_i32_16 : BitVec 32 := 0#32
  ![v29.toNat, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_17 : BitVec 32 := 0#32
  let c0_i32_18 : BitVec 32 := 0#32
  ![v9.toNat, 0, 0]
def k0_cond3 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_19 : BitVec 32 := 0#32
  let v42 : BitVec 1 := Scalar.cmpi .ne v41 c0_i32_19
  v42

def k0_cond4 (i : grid0.Coords) : BitVec 1 :=
  let arg0 : BitVec 32 := BitVec.ofNat 32 (i 0).val
  let c0_i32_20 : BitVec 32 := 0#32
  let v43 : BitVec 32 := Scalar.subi arg0 c0_i32_20
  let c0_i32_21 : BitVec 32 := 0#32
  let v44 : BitVec 1 := Scalar.cmpi .sge v43 c0_i32_21
  let v45 : BitVec 32 := Scalar.extui v44
  let c0_i32_22 : BitVec 32 := 0#32
  let v46 : BitVec 1 := Scalar.cmpi .ne v45 c0_i32_22
  v46

def k0_off13 (i : grid0.Coords) : Fin 1 → Nat :=
  let arg0 : BitVec 32 := BitVec.ofNat 32 (i 0).val
  let c0_i32_26 : BitVec 32 := 0#32
  let v51 : BitVec 32 := Scalar.subi arg0 c0_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  ![v61.toNat]
def k0_off14 (i : grid0.Coords) : Fin 2 → Nat :=
  let arg0 : BitVec 32 := BitVec.ofNat 32 (i 0).val
  let c0_i32_20 : BitVec 32 := 0#32
  let v43 : BitVec 32 := Scalar.subi arg0 c0_i32_20
  let c4096_i32_33 : BitVec 32 := 4096#32
  let v62 : BitVec 32 := Scalar.muli v43 c4096_i32_33
  let c0_i32_34 : BitVec 32 := 0#32
  ![v62.toNat, 0]
def k0_off15 (i : grid0.Coords) : Fin 3 → Nat :=
  let arg0 : BitVec 32 := BitVec.ofNat 32 (i 0).val
  let c0_i32_26 : BitVec 32 := 0#32
  let v51 : BitVec 32 := Scalar.subi arg0 c0_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c0_i32_35 : BitVec 32 := 0#32
  let c0_i32_36 : BitVec 32 := 0#32
  ![v61.toNat, 0, 0]
def k0_off16 (i : grid0.Coords) : Fin 2 → Nat :=
  let arg0 : BitVec 32 := BitVec.ofNat 32 (i 0).val
  let c0_i32_20 : BitVec 32 := 0#32
  let v43 : BitVec 32 := Scalar.subi arg0 c0_i32_20
  let c4096_i32_33 : BitVec 32 := 4096#32
  let v62 : BitVec 32 := Scalar.muli v43 c4096_i32_33
  let c128_i32_37 : BitVec 32 := 128#32
  ![v62.toNat, 128]
def k0_off17 (i : grid0.Coords) : Fin 3 → Nat :=
  let arg0 : BitVec 32 := BitVec.ofNat 32 (i 0).val
  let c0_i32_26 : BitVec 32 := 0#32
  let v51 : BitVec 32 := Scalar.subi arg0 c0_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c0_i32_38 : BitVec 32 := 0#32
  let c0_i32_39 : BitVec 32 := 0#32
  ![v61.toNat, 0, 0]
def k0_cond5 (i : grid0.Coords) : BitVec 1 :=
  let arg0 : BitVec 32 := BitVec.ofNat 32 (i 0).val
  let c1_i32_23 : BitVec 32 := 1#32
  let v47 : BitVec 32 := Scalar.subi arg0 c1_i32_23
  let c0_i32_24 : BitVec 32 := 0#32
  let v48 : BitVec 1 := Scalar.cmpi .sge v47 c0_i32_24
  let v49 : BitVec 32 := Scalar.extui v48
  let c0_i32_25 : BitVec 32 := 0#32
  let v50 : BitVec 1 := Scalar.cmpi .ne v49 c0_i32_25
  v50

def k0_off18 (i : grid0.Coords) : Fin 1 → Nat :=
  let arg0 : BitVec 32 := BitVec.ofNat 32 (i 0).val
  let c1_i32_26 : BitVec 32 := 1#32
  let v51 : BitVec 32 := Scalar.subi arg0 c1_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  ![v61.toNat]
def k0_off19 (i : grid0.Coords) : Fin 2 → Nat :=
  let arg0 : BitVec 32 := BitVec.ofNat 32 (i 0).val
  let c1_i32_23 : BitVec 32 := 1#32
  let v47 : BitVec 32 := Scalar.subi arg0 c1_i32_23
  let c4096_i32_33 : BitVec 32 := 4096#32
  let v62 : BitVec 32 := Scalar.muli v47 c4096_i32_33
  let c0_i32_34 : BitVec 32 := 0#32
  ![v62.toNat, 0]
def k0_off20 (i : grid0.Coords) : Fin 3 → Nat :=
  let arg0 : BitVec 32 := BitVec.ofNat 32 (i 0).val
  let c1_i32_26 : BitVec 32 := 1#32
  let v51 : BitVec 32 := Scalar.subi arg0 c1_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c0_i32_35 : BitVec 32 := 0#32
  let c0_i32_36 : BitVec 32 := 0#32
  ![v61.toNat, 0, 0]
def k0_off21 (i : grid0.Coords) : Fin 2 → Nat :=
  let arg0 : BitVec 32 := BitVec.ofNat 32 (i 0).val
  let c1_i32_23 : BitVec 32 := 1#32
  let v47 : BitVec 32 := Scalar.subi arg0 c1_i32_23
  let c4096_i32_33 : BitVec 32 := 4096#32
  let v62 : BitVec 32 := Scalar.muli v47 c4096_i32_33
  let c128_i32_37 : BitVec 32 := 128#32
  ![v62.toNat, 128]
def k0_off22 (i : grid0.Coords) : Fin 3 → Nat :=
  let arg0 : BitVec 32 := BitVec.ofNat 32 (i 0).val
  let c1_i32_26 : BitVec 32 := 1#32
  let v51 : BitVec 32 := Scalar.subi arg0 c1_i32_26
  let c2_i32_27 : BitVec 32 := 2#32
  let c0_i32_28 : BitVec 32 := 0#32
  let v52 : BitVec 1 := Scalar.cmpi .eq c2_i32_27 c0_i32_28
  let c1_i32_29 : BitVec 32 := 1#32
  let v53 : BitVec 32 := Scalar.select v52 c1_i32_29 c2_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c0_i32_38 : BitVec 32 := 0#32
  let c0_i32_39 : BitVec 32 := 0#32
  ![v61.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_sqrt128" => some (((Real.sqrt 128)⁻¹ : ℝ) : EReal)
  | _ => none
-- ==== ReferenceIdeal.lean ====
abbrev S16384x128 : Shape := ⟨2, ![16384, 128]⟩
abbrev S15x128 : Shape := ⟨2, ![15, 128]⟩
abbrev S128x7 : Shape := ⟨2, ![128, 7]⟩
abbrev S1x128 : Shape := ⟨2, ![1, 128]⟩
abbrev S_ : Shape := ⟨0, ![]⟩
abbrev S128x7x1 : Shape := ⟨3, ![128, 7, 1]⟩
abbrev S128x7x128 : Shape := ⟨3, ![128, 7, 128]⟩
abbrev S128x128 : Shape := ⟨2, ![128, 128]⟩
abbrev S129x128 : Shape := ⟨2, ![129, 128]⟩
abbrev S128x129 : Shape := ⟨2, ![128, 129]⟩
abbrev S16384x129 : Shape := ⟨2, ![16384, 129]⟩

abbrev nBuf : Space → Nat
  | .hbm => 22
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S15x128, .f32⟩
  | .hbm, ⟨2, _⟩ => ⟨S128x7, .i32⟩
  | .hbm, ⟨3, _⟩ => ⟨S1x128, .f32⟩
  | .hbm, ⟨4, _⟩ => ⟨S_, .i32⟩
  | .hbm, ⟨5, _⟩ => ⟨S128x7, .i32⟩
  | .hbm, ⟨6, _⟩ => ⟨S128x7, .i1⟩
  | .hbm, ⟨7, _⟩ => ⟨S_, .i32⟩
  | .hbm, ⟨8, _⟩ => ⟨S128x7, .i32⟩
  | .hbm, ⟨9, _⟩ => ⟨S128x7, .i32⟩
  | .hbm, ⟨10, _⟩ => ⟨S128x7, .i32⟩
  | .hbm, ⟨11, _⟩ => ⟨S128x7x1, .i32⟩
  | .hbm, ⟨12, _⟩ => ⟨S128x7x128, .f32⟩
  | .hbm, ⟨13, _⟩ => ⟨S_, .f32⟩
  | .hbm, ⟨14, _⟩ => ⟨S128x128, .f32⟩
  | .hbm, ⟨15, _⟩ => ⟨S129x128, .f32⟩
  | .hbm, ⟨16, _⟩ => ⟨S_, .f32⟩
  | .hbm, ⟨17, _⟩ => ⟨S_, .f32⟩
  | .hbm, ⟨18, _⟩ => ⟨S128x129, .f32⟩
  | .hbm, ⟨19, _⟩ => ⟨S16384x129, .f32⟩
  | .hbm, ⟨20, _⟩ => ⟨S16384x129, .f32⟩
  | .hbm, ⟨21, _⟩ => ⟨S16384x129, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.SameProgram.lean ====
/-
  The kernel's program and its idealized program are the same text but for one constant, which the idealized program
  reads through its name. Read at bit patterns, where the name stands for the word it was printed with, the two are the
  same program. So what every execution of the idealized program does at bit patterns, the kernel's does too.
-/
module

public import proofs.«01_k».proof.Defs
public import proofs.«01_k».proof.Proof.Gen.Kernel
public import proofs.«01_k».proof.Proof.Gen.KernelIdeal

@[expose] public section
noncomputable section
open Idealize.ShloMosaic Idealize.SL.Sem
namespace Cert.Same

/-- At bit patterns a name stands for the word it was printed with. -/
local instance printed : Named Bits := ⟨fun _ _ {φ} bits => Scalar.ofBits φ bits⟩

/-- The two programs' buffers are the same. -/
theorem sig_eq : Cert.Kernel.sig = Cert.KernelIdeal.sig := rfl

/-- Their main programs are the same. -/
theorem hm : Cert.Kernel.main (F := Bits) = Cert.KernelIdeal.main (F := Bits) := rfl
/-- Their pipelines are the same. -/
theorem hp : Cert.Kernel.pcfgs (F := Bits) = Cert.KernelIdeal.pcfgs (F := Bits) := rfl
/-- Their bodies are the same. -/
theorem hd0 : Cert.Kernel.defs₀ (F := Bits) = Cert.KernelIdeal.defs₀ (F := Bits) := by
  unfold Cert.Kernel.defs₀ Cert.KernelIdeal.defs₀
  refine congrArg _ (funext fun l => funext fun x => ?_)
  match l, x with
  | 0, (t, s) => rfl
  | ⟨_ + 1, h⟩, _ => exact absurd h (Nat.not_lt.2 (Nat.le_add_left _ _))
/-- Their label tables are the same. -/
theorem hd : Cert.Kernel.defs (F := Bits) = Cert.KernelIdeal.defs (F := Bits) := by
  unfold Cert.Kernel.defs Cert.KernelIdeal.defs
  exact congrArg (Pipeline.defs _) hd0

/-- The idealized program's frame at bit patterns is the kernel's frame. -/
theorem transfer (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) : Cert.quiescent_Kernel := fun m g _ => by
  have h := h m g
  rw [← hd] at h
  exact h

end Cert.Same
end
-- ==== Proof.KernelIdeal.Ring.lean ====
/-
  The copies the kernel makes of its result, step by step, as one write ring of two slots.

  Step `u` of the four computes rows `4096 u … 4096 u + 4095` of the result in two pieces: columns 0 … 127, stored in slot
  `u % 2` of one scratch buffer, and column 128, stored in slot `u % 2` of a second one. Each piece is copied to the
  result on a semaphore of its slot, and the copies of step `u` are waited for at step `u + 2`, the last two steps' at
  the end of the last step. This module names the slots, the pieces and the semaphores, states what a slot is in its two roles
  (free; in flight), and says how the whole buffers are cut into them and put together again. The contents of the result
  are tracked: a piece is held at an array `G` of the whole result's shape.
-/
module

public import proofs.«01_k».proof.Proof.Gen.KernelIdeal.Frame
public import proofs.«01_k».proof.Proof.Gen.KernelIdeal.Skeleton
public import Idealize.ShloMosaic.Lib.Ring.WriteBehind
public import Idealize.ShloMosaic.Lib.Pipeline.Routed

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (Pipeline.UC sig nD τ) ℕ

instance : NeZero grid0.N := ⟨by rw [N_0]; decide⟩

/-! ## When each branch of the body is taken -/

/-- The first branch (the projection is built) is taken at the first step only. -/
abbrev isFirst (i : grid0.Coords) : Prop :=
  Scalar.cmpi .ne (Scalar.extui (Scalar.cmpi .eq (BitVec.ofNat 32 (i 0).val) 0#32) : BitVec 32) 0#32 = 1#1
theorem first_iff : ∀ t : Fin grid0.N, isFirst (grid0.coords t) ↔ t.val = 0 := by decide +kernel
/-- The copies of two steps earlier are waited for from step 2 on; the last step drains, and both its waits are made. -/
theorem conds : ∀ t : Fin grid0.N, (k0_cond2 (grid0.coords t) = 1#1 ↔ 2 ≤ t.val) ∧ (k0_cond3 (grid0.coords t) = 1#1 ↔ t.val = 3)
    ∧ k0_cond4 (grid0.coords t) = 1#1 ∧ (k0_cond5 (grid0.coords t) = 1#1 ↔ 1 ≤ t.val) := by decide +kernel

/-! ## The slots, the pieces of the result and the semaphores -/

abbrev projM : Memref sig .tc .vmem S128x256 .f32 := Memref.whole cc0_scratch0
abbrev wideM : Memref sig .tc .vmem S2x4096x128 .f32 := Memref.whole cc0_scratch1
abbrev lastM : Memref sig .tc .vmem S2x4096x1 .f32 := Memref.whole cc0_scratch2
abbrev outM : Memref sig .tc .hbm S16384x129 .f32 := Memref.whole main_v13

/-- A slot, a piece or a semaphore at offsets of any spelling, as the body cuts them out. -/
abbrev wideSlotAt (off : Fin 3 → ℕ) (inb : ∀ a, off a + S1x4096x128.size a ≤ S2x4096x128.size a) : Memref sig .tc .vmem S4096x128 .f32 :=
  (wideM.slice (Rect.unit (s := S2x4096x128) off S1x4096x128.size inb) (fun _ => rfl)).squeeze S4096x128 squeezes_S1x4096x128_S4096x128
abbrev lastSlotAt (off : Fin 3 → ℕ) (inb : ∀ a, off a + S1x4096x1.size a ≤ S2x4096x1.size a) : Memref sig .tc .vmem S4096x1 .f32 :=
  (lastM.slice (Rect.unit (s := S2x4096x1) off S1x4096x1.size inb) (fun _ => rfl)).squeeze S4096x1 squeezes_S1x4096x1_S4096x1
abbrev widePieceAt (off : Fin 2 → ℕ) (inb : ∀ a, off a + S4096x128.size a ≤ S16384x129.size a) : Memref sig .tc .hbm S4096x128 .f32 :=
  outM.slice (Rect.unit (s := S16384x129) off S4096x128.size inb) (fun _ => rfl)
abbrev lastPieceAt (off : Fin 2 → ℕ) (inb : ∀ a, off a + S4096x1.size a ≤ S16384x129.size a) : Memref sig .tc .hbm S4096x1 .f32 :=
  outM.slice (Rect.unit (s := S16384x129) off S4096x1.size inb) (fun _ => rfl)
abbrev semAt (A : DmaSems sig S2) (off : Fin 1 → ℕ) (inb : ∀ a, off a + S1.size a ≤ S2.size a) : DmaSems sig S_ :=
  (A.slice (Rect.unit (s := S2) off S1.size inb)).squeeze S_ squeezes_S1_S_

theorem wideSlot_inb (g : Fin 2) : ∀ a, (![g.val, 0, 0] : Fin 3 → ℕ) a + S1x4096x128.size a ≤ S2x4096x128.size a := by
  have := g.isLt; intro a; fin_cases a <;> simp <;> omega
theorem lastSlot_inb (g : Fin 2) : ∀ a, (![g.val, 0, 0] : Fin 3 → ℕ) a + S1x4096x1.size a ≤ S2x4096x1.size a := by
  have := g.isLt; intro a; fin_cases a <;> simp <;> omega
theorem widePiece_inb (u : Fin 4) : ∀ a, (![4096 * u.val, 0] : Fin 2 → ℕ) a + S4096x128.size a ≤ S16384x129.size a := by
  have := u.isLt; intro a; fin_cases a <;> simp <;> omega
theorem lastPiece_inb (u : Fin 4) : ∀ a, (![4096 * u.val, 128] : Fin 2 → ℕ) a + S4096x1.size a ≤ S16384x129.size a := by
  have := u.isLt; intro a; fin_cases a <;> simp <;> omega
theorem sem_inb (g : Fin 2) : ∀ a, (![g.val] : Fin 1 → ℕ) a + S1.size a ≤ S2.size a := by
  have := g.isLt; intro a; fin_cases a <;> simp <;> omega

def wideSlot (g : Fin 2) : Memref sig .tc .vmem S4096x128 .f32 := wideSlotAt ![g.val, 0, 0] (wideSlot_inb g)
def lastSlot (g : Fin 2) : Memref sig .tc .vmem S4096x1 .f32 := lastSlotAt ![g.val, 0, 0] (lastSlot_inb g)
def widePiece (u : Fin 4) : Memref sig .tc .hbm S4096x128 .f32 := widePieceAt ![4096 * u.val, 0] (widePiece_inb u)
def lastPiece (u : Fin 4) : Memref sig .tc .hbm S4096x1 .f32 := lastPieceAt ![4096 * u.val, 128] (lastPiece_inb u)
def wideSem (g : Fin 2) : DmaSems sig S_ := semAt cc0_scratch3 ![g.val] (sem_inb g)
def lastSem (g : Fin 2) : DmaSems sig S_ := semAt cc0_scratch4 ![g.val] (sem_inb g)

/-! ## The body's offsets are the ring's: at step `t`, slot `t % 2`, the rows of step `t`, `t - 2` or `t - 1` -/

theorem offs_now : ∀ t : Fin grid0.N,
    k0_off6 (grid0.coords t) = ![(Ring.sl 2 t.val).val, 0, 0] ∧ k0_off7 (grid0.coords t) = ![(Ring.sl 2 t.val).val, 0, 0]
    ∧ k0_off8 (grid0.coords t) = ![(Ring.sl 2 t.val).val] ∧ k0_off9 (grid0.coords t) = ![4096 * (Ring.bk 4 t.val).val, 128]
    ∧ k0_off10 (grid0.coords t) = ![(Ring.sl 2 t.val).val, 0, 0] ∧ k0_off11 (grid0.coords t) = ![4096 * (Ring.bk 4 t.val).val, 0]
    ∧ k0_off12 (grid0.coords t) = ![(Ring.sl 2 t.val).val, 0, 0] := by decide +kernel
theorem offs_before : ∀ t : Fin grid0.N, 2 ≤ t.val →
    k0_off1 (grid0.coords t) = ![(Ring.sl 2 t.val).val] ∧ k0_off2 (grid0.coords t) = ![4096 * (Ring.bk 4 (t.val - 2)).val, 0]
    ∧ k0_off3 (grid0.coords t) = ![(Ring.sl 2 t.val).val, 0, 0] ∧ k0_off4 (grid0.coords t) = ![4096 * (Ring.bk 4 (t.val - 2)).val, 128]
    ∧ k0_off5 (grid0.coords t) = ![(Ring.sl 2 t.val).val, 0, 0] := by decide +kernel
theorem offs_drain : ∀ t : Fin grid0.N, t.val = 3 →
    k0_off13 (grid0.coords t) = ![(Ring.sl 2 t.val).val] ∧ k0_off14 (grid0.coords t) = ![4096 * (Ring.bk 4 t.val).val, 0]
    ∧ k0_off15 (grid0.coords t) = ![(Ring.sl 2 t.val).val, 0, 0] ∧ k0_off16 (grid0.coords t) = ![4096 * (Ring.bk 4 t.val).val, 128]
    ∧ k0_off17 (grid0.coords t) = ![(Ring.sl 2 t.val).val, 0, 0]
    ∧ k0_off18 (grid0.coords t) = ![(Ring.sl 2 (t.val + 1)).val] ∧ k0_off19 (grid0.coords t) = ![4096 * (Ring.bk 4 (t.val - 1)).val, 0]
    ∧ k0_off20 (grid0.coords t) = ![(Ring.sl 2 (t.val + 1)).val, 0, 0] ∧ k0_off21 (grid0.coords t) = ![4096 * (Ring.bk 4 (t.val - 1)).val, 128]
    ∧ k0_off22 (grid0.coords t) = ![(Ring.sl 2 (t.val + 1)).val, 0, 0] := by decide +kernel

theorem wideSlot_of {off : Fin 3 → ℕ} {g : Fin 2} (h : off = ![g.val, 0, 0]) (inb) : wideSlotAt off inb = wideSlot g := by subst h; rfl
theorem lastSlot_of {off : Fin 3 → ℕ} {g : Fin 2} (h : off = ![g.val, 0, 0]) (inb) : lastSlotAt off inb = lastSlot g := by subst h; rfl
theorem widePiece_of {off : Fin 2 → ℕ} {u : Fin 4} (h : off = ![4096 * u.val, 0]) (inb) : widePieceAt off inb = widePiece u := by subst h; rfl
theorem lastPiece_of {off : Fin 2 → ℕ} {u : Fin 4} (h : off = ![4096 * u.val, 128]) (inb) : lastPieceAt off inb = lastPiece u := by subst h; rfl
theorem wideSem_of {off : Fin 1 → ℕ} {g : Fin 2} (h : off = ![g.val]) (inb) : semAt cc0_scratch3 off inb = wideSem g := by subst h; rfl
theorem lastSem_of {off : Fin 1 → ℕ} {g : Fin 2} (h : off = ![g.val]) (inb) : semAt cc0_scratch4 off inb = lastSem g := by subst h; rfl

section Names
variable (t : Fin grid0.N)
-- what this step stores into and copies out of
instance (priority := high) : ClosedOff (k0_off6 (grid0.coords t)) := ⟨_, (offs_now t).1⟩
instance (priority := high) : ClosedOff (k0_off7 (grid0.coords t)) := ⟨_, (offs_now t).2.1⟩
@[sl_canon] theorem name8w (inb) : semAt cc0_scratch3 (k0_off8 (grid0.coords t)) inb = wideSem (Ring.sl 2 t.val) := wideSem_of (offs_now t).2.2.1 inb
@[sl_canon] theorem name8l (inb) : semAt cc0_scratch4 (k0_off8 (grid0.coords t)) inb = lastSem (Ring.sl 2 t.val) := lastSem_of (offs_now t).2.2.1 inb
@[sl_canon] theorem name9 (inb) : lastPieceAt (k0_off9 (grid0.coords t)) inb = lastPiece (Ring.bk 4 t.val) := lastPiece_of (offs_now t).2.2.2.1 inb
@[sl_canon] theorem name10 (inb) : lastSlotAt (k0_off10 (grid0.coords t)) inb = lastSlot (Ring.sl 2 t.val) := lastSlot_of (offs_now t).2.2.2.2.1 inb
@[sl_canon] theorem name11 (inb) : widePieceAt (k0_off11 (grid0.coords t)) inb = widePiece (Ring.bk 4 t.val) := widePiece_of (offs_now t).2.2.2.2.2.1 inb
@[sl_canon] theorem name12 (inb) : wideSlotAt (k0_off12 (grid0.coords t)) inb = wideSlot (Ring.sl 2 t.val) := wideSlot_of (offs_now t).2.2.2.2.2.2 inb
-- what it waits for, of two steps earlier
variable (h2 : 2 ≤ t.val)
include h2
@[sl_canon] theorem name1w (inb) : semAt cc0_scratch3 (k0_off1 (grid0.coords t)) inb = wideSem (Ring.sl 2 t.val) := wideSem_of (offs_before t h2).1 inb
@[sl_canon] theorem name1l (inb) : semAt cc0_scratch4 (k0_off1 (grid0.coords t)) inb = lastSem (Ring.sl 2 t.val) := lastSem_of (offs_before t h2).1 inb
@[sl_canon] theorem name2 (inb) : widePieceAt (k0_off2 (grid0.coords t)) inb = widePiece (Ring.bk 4 (t.val - 2)) := widePiece_of (offs_before t h2).2.1 inb
@[sl_canon] theorem name3 (inb) : wideSlotAt (k0_off3 (grid0.coords t)) inb = wideSlot (Ring.sl 2 t.val) := wideSlot_of (offs_before t h2).2.2.1 inb
@[sl_canon] theorem name4 (inb) : lastPieceAt (k0_off4 (grid0.coords t)) inb = lastPiece (Ring.bk 4 (t.val - 2)) := lastPiece_of (offs_before t h2).2.2.2.1 inb
@[sl_canon] theorem name5 (inb) : lastSlotAt (k0_off5 (grid0.coords t)) inb = lastSlot (Ring.sl 2 t.val) := lastSlot_of (offs_before t h2).2.2.2.2 inb
omit h2
-- what the last step drains: its own copies, then those of the step before
variable (h3 : t.val = 3)
include h3
@[sl_canon] theorem name13w (inb) : semAt cc0_scratch3 (k0_off13 (grid0.coords t)) inb = wideSem (Ring.sl 2 t.val) := wideSem_of (offs_drain t h3).1 inb
@[sl_canon] theorem name13l (inb) : semAt cc0_scratch4 (k0_off13 (grid0.coords t)) inb = lastSem (Ring.sl 2 t.val) := lastSem_of (offs_drain t h3).1 inb
@[sl_canon] theorem name14 (inb) : widePieceAt (k0_off14 (grid0.coords t)) inb = widePiece (Ring.bk 4 t.val) := widePiece_of (offs_drain t h3).2.1 inb
@[sl_canon] theorem name15 (inb) : wideSlotAt (k0_off15 (grid0.coords t)) inb = wideSlot (Ring.sl 2 t.val) := wideSlot_of (offs_drain t h3).2.2.1 inb
@[sl_canon] theorem name16 (inb) : lastPieceAt (k0_off16 (grid0.coords t)) inb = lastPiece (Ring.bk 4 t.val) := lastPiece_of (offs_drain t h3).2.2.2.1 inb
@[sl_canon] theorem name17 (inb) : lastSlotAt (k0_off17 (grid0.coords t)) inb = lastSlot (Ring.sl 2 t.val) := lastSlot_of (offs_drain t h3).2.2.2.2.1 inb
@[sl_canon] theorem name18w (inb) : semAt cc0_scratch3 (k0_off18 (grid0.coords t)) inb = wideSem (Ring.sl 2 (t.val + 1)) := wideSem_of (offs_drain t h3).2.2.2.2.2.1 inb
@[sl_canon] theorem name18l (inb) : semAt cc0_scratch4 (k0_off18 (grid0.coords t)) inb = lastSem (Ring.sl 2 (t.val + 1)) := lastSem_of (offs_drain t h3).2.2.2.2.2.1 inb
@[sl_canon] theorem name19 (inb) : widePieceAt (k0_off19 (grid0.coords t)) inb = widePiece (Ring.bk 4 (t.val - 1)) := widePiece_of (offs_drain t h3).2.2.2.2.2.2.1 inb
@[sl_canon] theorem name20 (inb) : wideSlotAt (k0_off20 (grid0.coords t)) inb = wideSlot (Ring.sl 2 (t.val + 1)) := wideSlot_of (offs_drain t h3).2.2.2.2.2.2.2.1 inb
@[sl_canon] theorem name21 (inb) : lastPieceAt (k0_off21 (grid0.coords t)) inb = lastPiece (Ring.bk 4 (t.val - 1)) := lastPiece_of (offs_drain t h3).2.2.2.2.2.2.2.2.1 inb
@[sl_canon] theorem name22 (inb) : lastSlotAt (k0_off22 (grid0.coords t)) inb = lastSlot (Ring.sl 2 (t.val + 1)) := lastSlot_of (offs_drain t h3).2.2.2.2.2.2.2.2.2 inb
end Names

/-! ## What is held of them -/

section Held
variable (c : Dev nD)

/-- A whole buffer's contents, by the memref that names it, and the points-to of its elements. -/
abbrev At {sp : Space} {S : Shape} {e : EltTy} (M : Memref sig .tc sp S e) : Type := Buf (Elt F) (M.view.loc (c : Thread nD τ))
abbrev held {sp : Space} {S : Shape} {e : EltTy} (M : Memref sig .tc sp S e) (f : At (F := F) c M) : sProp 𝕄 :=
  M.view.loc (c : Thread nD τ) ↦[M.view.set]{fullShare} f
/-- Semaphore `A` at zero. -/
abbrev clear (A : DmaSems sig S_) : sProp 𝕄 := semVal ((c : Thread nD τ), SemLoc.dma A.sem) 0
/-- A copy of slot `T` to piece `M` under way on semaphore `A`: at its wait it gives back the piece at `f` and the slot. -/
abbrev flying {S : Shape} (A : DmaSems sig S_) (M : Memref sig .tc .hbm S .f32) (T : Memref sig .tc .vmem S .f32) (f : At (F := F) c M) : sProp 𝕄 :=
  iprop(∃ e, Transfers.Flight countersEmb (c : Thread nD τ) (SemLoc.dma A.sem) default (M.view.amount (SemLoc.dma A.sem)) iprop(held c M f ∗ held c T e))

/-- Slot `g` free: its semaphores at zero, its two halves at anything. -/
abbrev free (g : Fin 2) : sProp 𝕄 :=
  iprop((clear (F := F) c (wideSem g) ∗ ∃ e, held c (wideSlot g) e) ∗ (clear (F := F) c (lastSem g) ∗ ∃ e, held c (lastSlot g) e))
/-- Slot `g` in flight with step `u`'s pieces of the result `G`. -/
abbrev infl (G : At (F := F) c outM) (g : Fin 2) (u : Fin 4) : sProp 𝕄 :=
  iprop(flying c (wideSem g) (widePiece u) (wideSlot g) G ∗ flying c (lastSem g) (lastPiece u) (lastSlot g) G)
/-- Step `u`'s pieces of the result, held at `G`. -/
abbrev home (G : At (F := F) c outM) (u : Fin 4) : sProp 𝕄 := iprop(held c (widePiece u) G ∗ held c (lastPiece u) G)

/-- The ring before step `k`: the result found at `G₀`, the pieces landed at `G`. -/
def ringAt (G₀ G : At (F := F) c outM) (k : ℕ) : sProp 𝕄 := Ring.AtBΦ 2 (free c) (infl c G) (home c G₀) (home c G) k

end Held

end Cert.KernelIdeal.Copies

end
-- ==== Proof.KernelIdeal.Whole.lean ====
/-
  The whole buffers cut into the ring's slots and pieces, and put together again.

  The result is its eight pieces (four steps, two column ranges each), disjoint and covering it; each of the two scratch
  buffers is its two slots. So the ring before the first step is made of what the launch hands over, and the ring after
  the last step gives it back with the result at the tracked array.
-/
module

public import proofs.«01_k».proof.Proof.KernelIdeal.Ring

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-! ## The elements of a piece and of a slot -/

abbrev pieceRect : Fin 4 × Bool → Finset S16384x129.Idx
  | (u, false) => (Rect.unit (s := S16384x129) ![4096 * u.val, 0] S4096x128.size (widePiece_inb u)).set
  | (u, true) => (Rect.unit (s := S16384x129) ![4096 * u.val, 128] S4096x1.size (lastPiece_inb u)).set
abbrev wideRect (g : Fin 2) : Finset S2x4096x128.Idx := (Rect.unit (s := S2x4096x128) ![g.val, 0, 0] S1x4096x128.size (wideSlot_inb g)).set
abbrev lastRect (g : Fin 2) : Finset S2x4096x1.Idx := (Rect.unit (s := S2x4096x1) ![g.val, 0, 0] S1x4096x1.size (lastSlot_inb g)).set

theorem widePiece_set (u : Fin 4) : (widePiece u).view.set = pieceRect (u, false) := by unfold widePiece; exact View.set_slice_whole _ _
theorem lastPiece_set (u : Fin 4) : (lastPiece u).view.set = pieceRect (u, true) := by unfold lastPiece; exact View.set_slice_whole _ _
theorem wideSlot_set (g : Fin 2) : (wideSlot g).view.set = wideRect g := by
  unfold wideSlot; simp only [Memref.view_squeeze, View.set_reshape]; exact View.set_slice_whole _ _
theorem lastSlot_set (g : Fin 2) : (lastSlot g).view.set = lastRect g := by
  unfold lastSlot; simp only [Memref.view_squeeze, View.set_reshape]; exact View.set_slice_whole _ _

/-- An element is in a step's piece when its row is the step's and its column on the piece's side of column 128. -/
theorem mem_piece (u : Fin 4) (b : Bool) (i : S16384x129.Idx) :
    i ∈ pieceRect (u, b) ↔ (i 0).val / 4096 = u.val ∧ ((i 1).val = 128 ↔ b = true) := by
  have h1 : (i 1).val < 129 := (i 1).isLt
  cases b <;> simp only [pieceRect, Rect.mem_set_unit, Fin.forall_fin_two] <;> simp <;> omega
theorem mem_wide (g : Fin 2) (i : S2x4096x128.Idx) : i ∈ wideRect g ↔ (i 0).val = g.val := by
  have h1 : (i 1).val < 4096 := (i 1).isLt
  have h2 : (i 2).val < 128 := (i 2).isLt
  simp only [wideRect, Rect.mem_set_unit, Fin.forall_fin_succ, Fin.forall_fin_zero_pi]; simp; omega
theorem mem_last (g : Fin 2) (i : S2x4096x1.Idx) : i ∈ lastRect g ↔ (i 0).val = g.val := by
  have h1 : (i 1).val < 4096 := (i 1).isLt
  have h2 : (i 2).val < 1 := (i 2).isLt
  simp only [lastRect, Rect.mem_set_unit, Fin.forall_fin_succ, Fin.forall_fin_zero_pi]; simp; omega

theorem pieces_disjoint (p q : Fin 4 × Bool) (h : p ≠ q) : Disjoint (pieceRect p) (pieceRect q) := by
  rw [Finset.disjoint_left]
  rintro i hp hq
  obtain ⟨a, b⟩ := p; obtain ⟨a', b'⟩ := q
  have hp := (mem_piece a b i).mp hp; have hq := (mem_piece a' b' i).mp hq
  refine h (Prod.ext (Fin.ext (hp.1.symm.trans hq.1)) (Bool.eq_iff_iff.mpr (hp.2.symm.trans hq.2)))
theorem pieces_cover : Finset.univ.biUnion pieceRect = Finset.univ := by
  refine Finset.eq_univ_iff_forall.mpr fun i => Finset.mem_biUnion.mpr ?_
  have h0 : (i 0).val < 16384 := (i 0).isLt
  exact ⟨(⟨(i 0).val / 4096, by omega⟩, decide ((i 1).val = 128)), Finset.mem_univ _, (mem_piece _ _ i).mpr ⟨rfl, by simp⟩⟩
theorem wides_disjoint (p q : Fin 2) (h : p ≠ q) : Disjoint (wideRect p) (wideRect q) :=
  Finset.disjoint_left.mpr fun i hp hq => h (Fin.ext (((mem_wide p i).mp hp).symm.trans ((mem_wide q i).mp hq)))
theorem wides_cover : Finset.univ.biUnion wideRect = Finset.univ :=
  Finset.eq_univ_iff_forall.mpr fun i => Finset.mem_biUnion.mpr ⟨i 0, Finset.mem_univ _, (mem_wide _ i).mpr rfl⟩
theorem lasts_disjoint (p q : Fin 2) (h : p ≠ q) : Disjoint (lastRect p) (lastRect q) :=
  Finset.disjoint_left.mpr fun i hp hq => h (Fin.ext (((mem_last p i).mp hp).symm.trans ((mem_last q i).mp hq)))
theorem lasts_cover : Finset.univ.biUnion lastRect = Finset.univ :=
  Finset.eq_univ_iff_forall.mpr fun i => Finset.mem_biUnion.mpr ⟨i 0, Finset.mem_univ _, (mem_last _ i).mpr rfl⟩

section Whole
variable (c : Dev nD)

/-- The result held whole is every step's pieces held. -/
theorem result_whole (G : At (F := F) c outM) : (((c : Thread nD τ).loc main_v13) ↦{fullShare} G : sProp 𝕄) = bigSep Finset.univ (home c G) := by
  refine (Ring.pointsTo_blocks (U := Pipeline.UC sig nD τ) (ℓ := (c : Thread nD τ).loc main_v13) (q := fullShare) pieceRect pieces_disjoint pieces_cover G).trans ?_
  rw [BI.bigSep_univ_prod]
  refine BI.bigSep_congr fun u _ => ?_
  rw [BI.bigSep_eq_bigSepL_of_eq [false, true] (by decide) (by decide)]
  simp only [BI.bigSepL_cons_cons, BI.bigSepL_singleton, home, held, widePiece_set, lastPiece_set]
  rfl

/-- The semaphores at zero, slot by slot. -/
def cells : sProp 𝕄 := iprop(semVal ((c : Thread nD τ), SemLoc.dma 4) 0 ∗ semVal ((c : Thread nD τ), SemLoc.dma 5) 0
  ∗ semVal ((c : Thread nD τ), SemLoc.dma 6) 0 ∗ semVal ((c : Thread nD τ), SemLoc.dma 7) 0)

theorem wide_split : iprop(∃ f, ((c : Thread nD τ).loc cc0_scratch1) ↦{fullShare} f) ⊢ (bigSep Finset.univ (fun g => iprop(∃ e, held (F := F) c (wideSlot g) e)) : sProp 𝕄) :=
  Ring.pieces_split (U := Pipeline.UC sig nD τ) (ℓ := (c : Thread nD τ).loc cc0_scratch1) (q := fullShare) wideRect wides_disjoint wides_cover
    (fun g e => held c (wideSlot g) e) (fun g e => by simp only [held, wideSlot_set]; rfl)
theorem wide_join : bigSep Finset.univ (fun g => iprop(∃ e, held (F := F) c (wideSlot g) e)) ⊢ (iprop(∃ f, ((c : Thread nD τ).loc cc0_scratch1) ↦{fullShare} f) : sProp 𝕄) :=
  Ring.pieces_join (U := Pipeline.UC sig nD τ) (ℓ := (c : Thread nD τ).loc cc0_scratch1) (q := fullShare) wideRect wides_disjoint wides_cover
    (fun g e => held c (wideSlot g) e) (fun g e => by simp only [held, wideSlot_set]; rfl) (fun _ => Classical.arbitrary _)
theorem last_split : iprop(∃ f, ((c : Thread nD τ).loc cc0_scratch2) ↦{fullShare} f) ⊢ (bigSep Finset.univ (fun g => iprop(∃ e, held (F := F) c (lastSlot g) e)) : sProp 𝕄) :=
  Ring.pieces_split (U := Pipeline.UC sig nD τ) (ℓ := (c : Thread nD τ).loc cc0_scratch2) (q := fullShare) lastRect lasts_disjoint lasts_cover
    (fun g e => held c (lastSlot g) e) (fun g e => by simp only [held, lastSlot_set]; rfl)
theorem last_join : bigSep Finset.univ (fun g => iprop(∃ e, held (F := F) c (lastSlot g) e)) ⊢ (iprop(∃ f, ((c : Thread nD τ).loc cc0_scratch2) ↦{fullShare} f) : sProp 𝕄) :=
  Ring.pieces_join (U := Pipeline.UC sig nD τ) (ℓ := (c : Thread nD τ).loc cc0_scratch2) (q := fullShare) lastRect lasts_disjoint lasts_cover
    (fun g e => held c (lastSlot g) e) (fun g e => by simp only [held, lastSlot_set]; rfl) (fun _ => Classical.arbitrary _)

theorem sem_names : SemLoc.dma (sig := sig) (wideSem 0).sem = SemLoc.dma 4 ∧ SemLoc.dma (sig := sig) (wideSem 1).sem = SemLoc.dma 5
    ∧ SemLoc.dma (sig := sig) (lastSem 0).sem = SemLoc.dma 6 ∧ SemLoc.dma (sig := sig) (lastSem 1).sem = SemLoc.dma 7 := by decide +kernel

/-- A family over the two slots, slot by slot. -/
theorem two_eq (Φ : Fin 2 → sProp 𝕄) : bigSep Finset.univ Φ = iprop(Φ 0 ∗ Φ 1) := by
  rw [BI.bigSep_eq_bigSepL_of_eq [0, 1] (by decide) (by decide)]; simp only [BI.bigSepL_cons_cons, BI.bigSepL_singleton]; rfl

/-- Both slots free are the semaphores at zero beside the two scratch buffers at anything, -/
theorem frees_in : iprop(cells (F := F) c ∗ (∃ f, ((c : Thread nD τ).loc cc0_scratch1) ↦{fullShare} f) ∗ (∃ f, ((c : Thread nD τ).loc cc0_scratch2) ↦{fullShare} f))
    ⊢ (bigSep Finset.univ (free (F := F) c) : sProp 𝕄) := by
  rw [two_eq]
  unfold cells free clear
  rw [sem_names.1, sem_names.2.1, sem_names.2.2.1, sem_names.2.2.2]
  iintro ⟨⟨H4, H5, H6, H7⟩, HW, HL⟩
  ihave HW := wide_split c $$ HW
  ihave HL := last_split c $$ HL
  simp only [two_eq]
  icases HW with ⟨HW0, HW1⟩
  icases HL with ⟨HL0, HL1⟩
  isplitl [H4 H6 HW0 HL0]
  · isplitl [H4 HW0]; · isplitl [H4]; · iexact H4
                        iexact HW0
    isplitl [H6]; · iexact H6
    iexact HL0
  · isplitl [H5 HW1]; · isplitl [H5]; · iexact H5
                        iexact HW1
    isplitl [H7]; · iexact H7
    iexact HL1

/-- and the converse. -/
theorem frees_out : (bigSep Finset.univ (free (F := F) c) : sProp 𝕄)
    ⊢ iprop(cells (F := F) c ∗ (∃ f, ((c : Thread nD τ).loc cc0_scratch1) ↦{fullShare} f) ∗ (∃ f, ((c : Thread nD τ).loc cc0_scratch2) ↦{fullShare} f)) := by
  rw [two_eq]
  unfold cells free clear
  rw [sem_names.1, sem_names.2.1, sem_names.2.2.1, sem_names.2.2.2]
  iintro ⟨⟨⟨H4, HW0⟩, ⟨H6, HL0⟩⟩, ⟨⟨H5, HW1⟩, ⟨H7, HL1⟩⟩⟩
  isplitl [H4 H5 H6 H7]
  · isplitl [H4]; · iexact H4
    isplitl [H5]; · iexact H5
    isplitl [H6]; · iexact H6
    iexact H7
  isplitl [HW0 HW1]
  · iapply wide_join c
    rw [two_eq]
    isplitl [HW0]; · iexact HW0
    iexact HW1
  · iapply last_join c
    rw [two_eq]
    isplitl [HL0]; · iexact HL0
    iexact HL1

/-- The ring before the first step is every piece as found and both slots free; -/
theorem ring_zero (G₀ G : At (F := F) c outM) : ringAt c G₀ G 0 = iprop(bigSep Finset.univ (home c G₀) ∗ bigSep Finset.univ (free c)) := by
  unfold ringAt; rw [Ring.AtBΦ_lt _ _ _ _ _ 0 (by decide), Ring.AtB_zero]; rfl
/-- after the last it is every piece landed and both slots free. -/
theorem ring_end (G₀ G : At (F := F) c outM) : ringAt c G₀ G 4 = iprop(bigSep Finset.univ (home c G) ∗ bigSep Finset.univ (free c)) := by
  unfold ringAt; rw [Ring.AtBΦ_end _ _ _ _ _ 4 rfl]; rfl

end Whole

end Cert.KernelIdeal.Copies

end
-- ==== Proof.KernelIdeal.Contents.lean ====
/-
  What one step of the kernel leaves in a slot and, through its two copies, in the result.

  A step multiplies its 4096 input rows by the projection, stores columns 0 … 127 of the product in the wide slot and
  column 128 in the narrow one, and copies each to its piece of the result. This module says that a piece so written
  agrees, on its own elements, with any array whose rows of that step are the product's.
-/
module

public import proofs.«01_k».proof.Proof.KernelIdeal.Ring
public import Idealize.ShloMosaic.Lib.VecWindow

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Columns 0 … 127 of the product of a step's rows and the projection, and its column 128. -/
def wideOf (x : Vec F S4096x128 .f32) (p : Vec F S128x256 .f32) : Vec F S4096x128 .f32 :=
  extractStridedSlice S4096x128 ![0, 0] (k0_pay3 x p) slices_S4096x256_o0_0_S4096x128
def lastOf (x : Vec F S4096x128 .f32) (p : Vec F S128x256 .f32) : Vec F S4096x1 .f32 :=
  extractStridedSlice S4096x1 ![0, 128] (k0_pay3 x p) slices_S4096x256_o0_128_S4096x1

/-- Step `u`'s rows of the array `G` are the product of `x` and `p`. -/
structure RowsAre (G : outM.view.ty.Contents (Elt F)) (u : Fin 4) (x : Vec F S4096x128 .f32) (p : Vec F S128x256 .f32) : Prop where
  wide : View.read (Elt F) (widePiece u).view G = wideOf x p
  last : View.read (Elt F) (lastPiece u).view G = lastOf x p

/-- A view written whole with what it reads of `G` is at `G` on its own elements. -/
theorem landed {κ : Kind} {sp : Space} {s : Shape} {e : EltTy} (v : View sig κ sp s e) (f G : v.ty.Contents (Elt F)) (w : s.Idx → Elt F e)
    (h : v.read (Elt F) G = w) : ∀ i ∈ v.set, v.writes (Elt F) f [⟨Rect.whole s, w⟩] i = G i := by
  intro i hi
  obtain ⟨x, -, rfl⟩ := Finset.mem_map.mp hi
  have := congrFun ((View.read_writes_whole v f w).trans h.symm) x
  rw [View.read_apply, View.read_apply] at this
  exact (cast_inj (congrArg (Elt F) v.elt_eq)).mp this

theorem wide_stored {off : Fin 3 → ℕ} {g : Fin 2} (h : off = ![g.val, 0, 0]) (inb) (e : wideM.view.ty.Contents (Elt F)) (w : Vec F S4096x128 .f32) :
    View.read (Elt F) (wideSlot g).view (View.write (Elt F) ((Memref.whole cc0_scratch1).access (Rect.unit (s := S2x4096x128) off S1x4096x128.size inb)) e
      (shapeCast S1x4096x128 w shapeCasts_S4096x128_S1x4096x128) Finset.univ) = w := by
  subst h
  refine (funext fun j => ?_ : _ = _)
  refine (congrFun (View.read_write_univ (v := (Memref.whole cc0_scratch1).access (Rect.unit (s := S2x4096x128) ![g.val, 0, 0] S1x4096x128.size inb)) e _) _).trans ?_
  exact congrArg w ((Shape.reshapeEquiv_reshapeEquiv _ _ _).trans (Shape.reshapeEquiv_self _ _))

theorem last_stored {off : Fin 3 → ℕ} {g : Fin 2} (h : off = ![g.val, 0, 0]) (inb) (e : lastM.view.ty.Contents (Elt F)) (w : Vec F S4096x1 .f32) :
    View.read (Elt F) (lastSlot g).view (View.write (Elt F) ((Memref.whole cc0_scratch2).access (Rect.unit (s := S2x4096x1) off S1x4096x1.size inb)) e
      (shapeCast S1x4096x1 w shapeCasts_S4096x1_S1x4096x1) Finset.univ) = w := by
  subst h
  refine (funext fun j => ?_ : _ = _)
  refine (congrFun (View.read_write_univ (v := (Memref.whole cc0_scratch2).access (Rect.unit (s := S2x4096x1) ![g.val, 0, 0] S1x4096x1.size inb)) e _) _).trans ?_
  exact congrArg w ((Shape.reshapeEquiv_reshapeEquiv _ _ _).trans (Shape.reshapeEquiv_self _ _))

theorem held_of {c : Dev nD} {S : Shape} {M : Memref sig .tc .hbm S .f32} {f G : At (F := F) c M} (h : ∀ i ∈ M.view.set, f i = G i) :
    (held c M f : sProp 𝕄) ⊢ held c M G := Entails.of_eq (pointsTo_congr h)
/-- A copy under way whose landing is at `f` is one whose landing is at `G`, when the two agree on the piece. -/
theorem flying_of (c : Dev nD) {S : Shape} (A : DmaSems sig S_) (M : Memref sig .tc .hbm S .f32) (T : Memref sig .tc .vmem S .f32)
    {f G : At (F := F) c M} (h : ∀ i ∈ M.view.set, f i = G i) {n : ℕ} (hn : n = M.view.amount (SemLoc.dma A.sem)) (e : At (F := F) c T) :
    (Transfers.Flight countersEmb (c : Thread nD τ) (SemLoc.dma A.sem) default n iprop(held c M f ∗ held c T e) : sProp 𝕄)
      ⊢ flying c A M T G := by
  subst hn
  refine (Transfers.Flight_mono countersEmb (c : Thread nD τ) (sep_mono (held_of h) .rfl)).trans ?_
  iintro H; iexists e; iexact H

/-- What a piece's copy counts on its semaphore. -/
theorem wide_amount {u : Fin 4} (A : DmaSems sig S_) : 65536 = (widePiece u).view.amount (SemLoc.dma A.sem) := rfl
theorem last_amount {u : Fin 4} (A : DmaSems sig S_) : 65536 = (lastPiece u).view.amount (SemLoc.dma A.sem) := rfl

section Landed
variable {G : outM.view.ty.Contents (Elt F)} {u : Fin 4} {x : Vec F S4096x128 .f32} {p : Vec F S128x256 .f32} (hG : RowsAre G u x p)
variable {off : Fin 3 → ℕ} {g : Fin 2} (h : off = ![g.val, 0, 0]) {vx : Vec F S4096x128 .f32} {vp : Vec F S128x256 .f32} (hx : vx = x) (hp : vp = p)
include hG h hx hp

/-- The wide piece, copied from the slot the step stored, agrees with `G`. -/
theorem wide_landed (inb) (e : wideM.view.ty.Contents (Elt F)) (G₀ : outM.view.ty.Contents (Elt F)) : ∀ i ∈ (widePiece u).view.set,
    (widePiece u).view.writes (Elt F) G₀ [⟨Rect.whole S4096x128, ReadAs.same.apply (View.read (Elt F) (wideSlot g).view
      (View.write (Elt F) ((Memref.whole cc0_scratch1).access (Rect.unit (s := S2x4096x128) off S1x4096x128.size inb)) e (k0_pay4 vx vp) Finset.univ))⟩] i = G i := by
  subst hx; subst hp
  exact landed _ _ _ _ (hG.wide.trans (wide_stored h inb e (wideOf vx vp)).symm)

/-- So does the narrow one. -/
theorem last_landed (inb) (e : lastM.view.ty.Contents (Elt F)) (G₀ : outM.view.ty.Contents (Elt F)) : ∀ i ∈ (lastPiece u).view.set,
    (lastPiece u).view.writes (Elt F) G₀ [⟨Rect.whole S4096x1, ReadAs.same.apply (View.read (Elt F) (lastSlot g).view
      (View.write (Elt F) ((Memref.whole cc0_scratch2).access (Rect.unit (s := S2x4096x1) off S1x4096x1.size inb)) e (k0_pay5 vx vp) Finset.univ))⟩] i = G i := by
  subst hx; subst hp
  exact landed _ _ _ _ (hG.last.trans (last_stored h inb e (lastOf vx vp)).symm)

end Landed

/-- What the body loads of a whole staging buffer and of the projection. -/
theorem loads_rows {M : Memref sig .tc .vmem S4096x128 .f32} (hM : M.IsWhole) (x : Vec F S4096x128 .f32) :
    View.readAt (Elt F) M.view (Rect.unit ![0, 0] S4096x128.size inb_S4096x128_S4096x128_0_0).toLoadRect (hM.unread x) = x :=
  (View.readAt_full M.view _ _).trans (hM.read_unread x)
theorem loads_proj {f : projM.view.ty.Contents (Elt F)} {p : Vec F S128x256 .f32} (h : View.read (Elt F) projM.view f = p) :
    View.readAt (Elt F) projM.view (Rect.unit ![0, 0] S128x256.size inb_S128x256_S128x256_0_0).toLoadRect f = p :=
  (View.readAt_full projM.view _ _).trans h

theorem loads_wt {M : Memref sig .tc .vmem S128x16 .f32} (hM : M.IsWhole) (x : Vec F S128x16 .f32) :
    View.readAt (Elt F) M.view (Rect.unit ![0, 0] S128x16.size inb_S128x16_S128x16_0_0).toLoadRect (hM.unread x) = x :=
  (View.readAt_full M.view _ _).trans (hM.read_unread x)
theorem loads_row {M : Memref sig .tc .vmem S8x256 .i32} (hM : M.IsWhole) (x : Vec F S8x256 .i32) {off : Fin 2 → ℕ}
    (inb : ∀ a, off a + S1x256.size a ≤ S8x256.size a) :
    View.readAt (Elt F) M.view (Rect.unit (s := S8x256) off S1x256.size inb).toLoadRect (hM.unread x) = VecWindow.window x off S1x256.size inb := by
  rw [View.readAt_unit M.view _ inb rfl inb, hM.read_unread]

/-- The projection the first step builds, of the eight index rows `x` and the transposed weights `w`. -/
def projOf [Named F] (x : Vec F S8x256 .i32) (w : Vec F S128x16 .f32) : Vec F S128x256 .f32 :=
  k0_pay2 (iota .tc S16x256 32 [0] iota_S16x256_d0_w32)
    (k0_pay1 (VecWindow.window x ![0, 0] S1x256.size inb_S8x256_S1x256_0_0) (VecWindow.window x ![1, 0] S1x256.size inb_S8x256_S1x256_1_0)
      (VecWindow.window x ![2, 0] S1x256.size inb_S8x256_S1x256_2_0) (VecWindow.window x ![3, 0] S1x256.size inb_S8x256_S1x256_3_0)
      (VecWindow.window x ![4, 0] S1x256.size inb_S8x256_S1x256_4_0) (VecWindow.window x ![5, 0] S1x256.size inb_S8x256_S1x256_5_0))
    (VecWindow.window x ![6, 0] S1x256.size inb_S8x256_S1x256_6_0) (VecWindow.window x ![7, 0] S1x256.size inb_S8x256_S1x256_7_0) w

end Cert.KernelIdeal.Copies

end
-- ==== Proof.KernelIdeal.RunFirst.lean ====
/-
  The first step of the kernel, run: it builds the projection from the index rows and the weights, then stores and starts
  copying its rows of the result.
-/
module

public import proofs.«01_k».proof.Proof.KernelIdeal.Contents

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

set_option maxHeartbeats 1000000 in
theorem run_first (c : Dev nD) (t : Fin cfg0.N) (arg1 : Memref sig .tc .vmem S8x256 .i32) (harg1 : arg1.IsWhole) (arg2 : Memref sig .tc .vmem S128x16 .f32) (harg2 : arg2.IsWhole) (arg3 : Memref sig .tc .vmem S4096x128 .f32) (harg3 : arg3.IsWhole)
    (h1 : t.val = 0) (x0 : Vec F S8x256 .i32) (x1 : Vec F S128x16 .f32) (x2 : Vec F S4096x128 .f32)
    (G₀ G : At (F := F) c outM) (hG : RowsAre G (Ring.bk 4 t.val) x2 (projOf x0 x1)) (W : Waits sig Unit) (K : PUnit → sProp 𝕄) :
    iprop(owns (c : Thread nD τ) arg1 fullShare x0 ∗ owns (c : Thread nD τ) arg2 fullShare x1 ∗ owns (c : Thread nD τ) arg3 fullShare x2
        ∗ (∃ p₀, owns (c : Thread nD τ) projM fullShare p₀) ∗ home c G₀ (Ring.bk 4 t.val) ∗ free c (Ring.sl 2 t.val) ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) projM fullShare (projOf x0 x1) ∗ infl c G (Ring.sl 2 t.val) (Ring.bk 4 t.val) ∗ (∃ W', owes (c : Thread nD τ) 0 W')) -∗ K ⟨⟩))
      ⊢ wp frame (wpE (defs₀ (F := F)) Variants.none c none) Set.univ (cc0__tc_body (grid0.coords t) arg1 harg1 arg2 harg2 arg3 harg3 (Memref.whole main_v13) (Memref.isWhole_whole _) (Memref.whole cc0_scratch0) (Memref.isWhole_whole _) (Memref.whole cc0_scratch1) (Memref.isWhole_whole _) (Memref.whole cc0_scratch2) (Memref.isWhole_whole _) cc0_scratch3 cc0_scratch4) K := by
  have hc1 : isFirst (grid0.coords t) := (first_iff t).mpr h1
  have hc2 : ¬ k0_cond2 (grid0.coords t) = 1#1 := fun h => by have := (conds t).1.mp h; omega
  have hc3 : ¬ k0_cond3 (grid0.coords t) = 1#1 := fun h => by have := (conds t).2.1.mp h; omega
  simp only [cc0__tc_body_eq_skeleton]; unfold cc0__tc_body_skel
  unfold owns
  iintro ⟨⟨%f0, %hf0, H0⟩, ⟨%f1, %hf1, H1⟩, ⟨%f2, %hf2, H2⟩, ⟨%p₀, %fp, %hfp, Hp⟩, ⟨HwP, HlP⟩, ⟨⟨HwS, ⟨%ew, HwT⟩⟩, ⟨HlS, ⟨%el, HlT⟩⟩⟩, HW, Hk⟩
  obtain rfl := harg1.eq_unread hf0; obtain rfl := harg2.eq_unread hf1; obtain rfl := harg3.eq_unread hf2
  sl_exec (disch := first | sl_exact hc1 | sl_exact hc2 | sl_exact hc3)
  sl_step
  iapply Hk
  have h86 : run_first.sl.v86 c arg1 harg1 x0 = k0_pay1
      (View.readAt (Elt F) arg1.view (Rect.unit (s := S8x256) ![0, 0] S1x256.size inb_S8x256_S1x256_0_0).toLoadRect (harg1.unread x0))
      (View.readAt (Elt F) arg1.view (Rect.unit (s := S8x256) ![1, 0] S1x256.size inb_S8x256_S1x256_1_0).toLoadRect (harg1.unread x0))
      (View.readAt (Elt F) arg1.view (Rect.unit (s := S8x256) ![2, 0] S1x256.size inb_S8x256_S1x256_2_0).toLoadRect (harg1.unread x0))
      (View.readAt (Elt F) arg1.view (Rect.unit (s := S8x256) ![3, 0] S1x256.size inb_S8x256_S1x256_3_0).toLoadRect (harg1.unread x0))
      (View.readAt (Elt F) arg1.view (Rect.unit (s := S8x256) ![4, 0] S1x256.size inb_S8x256_S1x256_4_0).toLoadRect (harg1.unread x0))
      (View.readAt (Elt F) arg1.view (Rect.unit (s := S8x256) ![5, 0] S1x256.size inb_S8x256_S1x256_5_0).toLoadRect (harg1.unread x0)) := rfl
  have hq : k0_pay2 run_first.sl.v43 (run_first.sl.v86 c arg1 harg1 x0) (run_first.sl.r c arg1 harg1 x0)
      (View.readAt (Elt F) arg1.view (Rect.unit (s := S8x256) ![7, 0] S1x256.size inb_S8x256_S1x256_7_0).toLoadRect (harg1.unread x0))
      (View.readAt (Elt F) arg2.view (Rect.unit ![0, 0] S128x16.size inb_S128x16_S128x16_0_0).toLoadRect (harg2.unread x1)) = projOf x0 x1 := by
    unfold run_first.sl.v43 run_first.sl.r projOf
    rw [h86, loads_wt]; iterate 8 rw [loads_row harg1 x0]
  have hv : run_first.sl.v17 c arg1 harg1 arg2 harg2 x0 x1 = projOf x0 x1 := by
    unfold run_first.sl.v17 run_first.sl.Hp_1
    exact (View.readCov_full projM.view _ _ _ _).trans hq
  have hw : ∀ i ∈ (widePiece (Ring.bk 4 t.val)).view.set, (widePiece (Ring.bk 4 t.val)).view.writes (Elt F) G₀
      [⟨Rect.whole S4096x128, run_first.sl.dma17_1 c t arg1 harg1 arg2 harg2 arg3 harg3 x0 x1 x2 ew⟩] i = G i :=
    wide_landed hG (offs_now t).1 (loads_rows harg3 x2) hv _ ew G₀
  have hl : ∀ i ∈ (lastPiece (Ring.bk 4 t.val)).view.set, (lastPiece (Ring.bk 4 t.val)).view.writes (Elt F) G₀
      [⟨Rect.whole S4096x1, run_first.sl.dma17 c t arg1 harg1 arg2 harg2 arg3 harg3 x0 x1 x2 el⟩] i = G i :=
    last_landed hG (offs_now t).2.1 (loads_rows harg3 x2) hv _ el G₀
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [Hp]; · iexists projM.view.writes (Elt F) fp (run_first.sl.Hp_1 c arg1 harg1 arg2 harg2 x0 x1); isplitr; · ipureintro; unfold run_first.sl.Hp_1; exact (View.read_writes_full projM.view fp _ _ _).trans hq
                  iexact Hp
  isplitl [HwS HlS]
  · isplitl [HwS]
    · iapply flying_of c (wideSem (Ring.sl 2 t.val)) (widePiece (Ring.bk 4 t.val)) (wideSlot (Ring.sl 2 t.val)) hw (wide_amount _) (run_first.sl.HwT_w1 c t arg1 harg1 arg2 harg2 arg3 harg3 x0 x1 x2 ew) $$ HwS
    · iapply flying_of c (lastSem (Ring.sl 2 t.val)) (lastPiece (Ring.bk 4 t.val)) (lastSlot (Ring.sl 2 t.val)) hl (last_amount _) (run_first.sl.HlT_w2 c t arg1 harg1 arg2 harg2 arg3 harg3 x0 x1 x2 el) $$ HlS
  iexists _; iexact HW

end Cert.KernelIdeal.Copies

end
-- ==== Proof.KernelIdeal.RunSecond.lean ====
/-
  The second step of the kernel, run: it stores and starts copying its rows of the result into the slot still free, the
  first step's copies under way.
-/
module

public import proofs.«01_k».proof.Proof.KernelIdeal.Contents

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

set_option maxHeartbeats 1000000 in
theorem run_second (c : Dev nD) (t : Fin cfg0.N) (arg1 : Memref sig .tc .vmem S8x256 .i32) (harg1 : arg1.IsWhole) (arg2 : Memref sig .tc .vmem S128x16 .f32) (harg2 : arg2.IsWhole) (arg3 : Memref sig .tc .vmem S4096x128 .f32) (harg3 : arg3.IsWhole)
    (h1 : t.val = 1) (x0 : Vec F S8x256 .i32) (x1 : Vec F S128x16 .f32) (x2 : Vec F S4096x128 .f32) (p : Vec F S128x256 .f32)
    (G₀ G : At (F := F) c outM) (hG : RowsAre G (Ring.bk 4 t.val) x2 p) (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) projM fullShare p ∗ home c G₀ (Ring.bk 4 t.val) ∗ free c (Ring.sl 2 t.val) ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) projM fullShare p ∗ infl c G (Ring.sl 2 t.val) (Ring.bk 4 t.val) ∗ (∃ W', owes (c : Thread nD τ) 0 W')) -∗ K ⟨⟩))
      ⊢ wp frame (wpE (defs₀ (F := F)) Variants.none c none) Set.univ (cc0__tc_body (grid0.coords t) arg1 harg1 arg2 harg2 arg3 harg3 (Memref.whole main_v13) (Memref.isWhole_whole _) (Memref.whole cc0_scratch0) (Memref.isWhole_whole _) (Memref.whole cc0_scratch1) (Memref.isWhole_whole _) (Memref.whole cc0_scratch2) (Memref.isWhole_whole _) cc0_scratch3 cc0_scratch4) K := by
  have hc1 : ¬ isFirst (grid0.coords t) := fun h => by have := (first_iff t).mp h; omega
  have hc2 : ¬ k0_cond2 (grid0.coords t) = 1#1 := fun h => by have := (conds t).1.mp h; omega
  have hc3 : ¬ k0_cond3 (grid0.coords t) = 1#1 := fun h => by have := (conds t).2.1.mp h; omega
  simp only [cc0__tc_body_eq_skeleton]; unfold cc0__tc_body_skel
  unfold owns
  iintro ⟨⟨%f0, %hf0, H0⟩, ⟨%f1, %hf1, H1⟩, ⟨%f2, %hf2, H2⟩, ⟨%fp, %hfp, Hp⟩, ⟨HwP, HlP⟩, ⟨⟨HwS, ⟨%ew, HwT⟩⟩, ⟨HlS, ⟨%el, HlT⟩⟩⟩, HW, Hk⟩
  obtain rfl := harg1.eq_unread hf0; obtain rfl := harg2.eq_unread hf1; obtain rfl := harg3.eq_unread hf2
  sl_exec (disch := first | sl_exact hc1 | sl_exact hc2 | sl_exact hc3)
  sl_step
  iapply Hk
  have hw : ∀ i ∈ (widePiece (Ring.bk 4 t.val)).view.set, (widePiece (Ring.bk 4 t.val)).view.writes (Elt F) G₀
      [⟨Rect.whole S4096x128, run_second.sl.dma6_1 c t arg3 harg3 x2 fp ew⟩] i = G i :=
    wide_landed hG (offs_now t).1 (loads_rows harg3 x2) (loads_proj hfp) _ ew G₀
  have hl : ∀ i ∈ (lastPiece (Ring.bk 4 t.val)).view.set, (lastPiece (Ring.bk 4 t.val)).view.writes (Elt F) G₀
      [⟨Rect.whole S4096x1, run_second.sl.dma6 c t arg3 harg3 x2 fp el⟩] i = G i :=
    last_landed hG (offs_now t).2.1 (loads_rows harg3 x2) (loads_proj hfp) _ el G₀
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [Hp]; · iexists _; isplitr; · ipureintro; exact hfp
                  iexact Hp
  isplitl [HwS HlS]
  · isplitl [HwS]
    · iapply flying_of c (wideSem (Ring.sl 2 t.val)) (widePiece (Ring.bk 4 t.val)) (wideSlot (Ring.sl 2 t.val)) hw (wide_amount _) (run_second.sl.HwT_w1 c t arg3 harg3 x2 fp ew) $$ HwS
    · iapply flying_of c (lastSem (Ring.sl 2 t.val)) (lastPiece (Ring.bk 4 t.val)) (lastSlot (Ring.sl 2 t.val)) hl (last_amount _) (run_second.sl.HlT_w2 c t arg3 harg3 x2 fp el) $$ HlS
  iexists _; iexact HW

end Cert.KernelIdeal.Copies

end
-- ==== Proof.KernelIdeal.RunThird.lean ====
/-
  The third step of the kernel, run: it waits for the first step's copies, then stores and starts copying its own rows
  from the slot they held.
-/
module

public import proofs.«01_k».proof.Proof.KernelIdeal.Contents

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

set_option maxHeartbeats 1000000 in
theorem run_third (c : Dev nD) (t : Fin cfg0.N) (arg1 : Memref sig .tc .vmem S8x256 .i32) (harg1 : arg1.IsWhole) (arg2 : Memref sig .tc .vmem S128x16 .f32) (harg2 : arg2.IsWhole) (arg3 : Memref sig .tc .vmem S4096x128 .f32) (harg3 : arg3.IsWhole)
    (h1 : t.val = 2) (x0 : Vec F S8x256 .i32) (x1 : Vec F S128x16 .f32) (x2 : Vec F S4096x128 .f32) (p : Vec F S128x256 .f32)
    (G₀ G : At (F := F) c outM) (hG : RowsAre G (Ring.bk 4 t.val) x2 p) (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) projM fullShare p ∗ home c G₀ (Ring.bk 4 t.val) ∗ infl c G (Ring.sl 2 t.val) (Ring.bk 4 (t.val - 2)) ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) projM fullShare p ∗ home c G (Ring.bk 4 (t.val - 2)) ∗ infl c G (Ring.sl 2 t.val) (Ring.bk 4 t.val) ∗ (∃ W', owes (c : Thread nD τ) 0 W')) -∗ K ⟨⟩))
      ⊢ wp frame (wpE (defs₀ (F := F)) Variants.none c none) Set.univ (cc0__tc_body (grid0.coords t) arg1 harg1 arg2 harg2 arg3 harg3 (Memref.whole main_v13) (Memref.isWhole_whole _) (Memref.whole cc0_scratch0) (Memref.isWhole_whole _) (Memref.whole cc0_scratch1) (Memref.isWhole_whole _) (Memref.whole cc0_scratch2) (Memref.isWhole_whole _) cc0_scratch3 cc0_scratch4) K := by
  have hc1 : ¬ isFirst (grid0.coords t) := fun h => by have := (first_iff t).mp h; omega
  have hc2 : k0_cond2 (grid0.coords t) = 1#1 := (conds t).1.mpr (by omega)
  have h2 : 2 ≤ t.val := by omega
  have hc3 : ¬ k0_cond3 (grid0.coords t) = 1#1 := fun h => by have := (conds t).2.1.mp h; omega
  simp only [cc0__tc_body_eq_skeleton]; unfold cc0__tc_body_skel
  unfold owns
  iintro ⟨⟨%f0, %hf0, H0⟩, ⟨%f1, %hf1, H1⟩, ⟨%f2, %hf2, H2⟩, ⟨%fp, %hfp, Hp⟩, ⟨HwP, HlP⟩, ⟨⟨%ew, HwF⟩, ⟨%el, HlF⟩⟩, HW, Hk⟩
  obtain rfl := harg1.eq_unread hf0; obtain rfl := harg2.eq_unread hf1; obtain rfl := harg3.eq_unread hf2
  sl_exec (disch := first | sl_exact hc1 | sl_exact hc2 | sl_exact hc3)
  sl_step
  iapply Hk
  have hw : ∀ i ∈ (widePiece (Ring.bk 4 t.val)).view.set, (widePiece (Ring.bk 4 t.val)).view.writes (Elt F) G₀
      [⟨Rect.whole S4096x128, run_third.sl.dma6_1 c t arg3 harg3 x2 fp ew⟩] i = G i :=
    wide_landed hG (offs_now t).1 (loads_rows harg3 x2) (loads_proj hfp) _ ew G₀
  have hl : ∀ i ∈ (lastPiece (Ring.bk 4 t.val)).view.set, (lastPiece (Ring.bk 4 t.val)).view.writes (Elt F) G₀
      [⟨Rect.whole S4096x1, run_third.sl.dma6 c t arg3 harg3 x2 fp el⟩] i = G i :=
    last_landed hG (offs_now t).2.1 (loads_rows harg3 x2) (loads_proj hfp) _ el G₀
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [Hp]; · iexists _; isplitr; · ipureintro; exact hfp
                  iexact Hp
  isplitl [HwF_dst HlF_dst]; · isplitl [HwF_dst]; · iexact HwF_dst
                               iexact HlF_dst
  isplitl [HwF HlF]
  · isplitl [HwF]
    · iapply flying_of c (wideSem (Ring.sl 2 t.val)) (widePiece (Ring.bk 4 t.val)) (wideSlot (Ring.sl 2 t.val)) hw (wide_amount _) (run_third.sl.HwF_src_w1 c t arg3 harg3 x2 fp ew) $$ HwF
    · iapply flying_of c (lastSem (Ring.sl 2 t.val)) (lastPiece (Ring.bk 4 t.val)) (lastSlot (Ring.sl 2 t.val)) hl (last_amount _) (run_third.sl.HlF_src_w2 c t arg3 harg3 x2 fp el) $$ HlF
  iexists _; iexact HW

end Cert.KernelIdeal.Copies

end
-- ==== Proof.KernelIdeal.RunLast.lean ====
/-
  The last step of the kernel, run: it waits for the second step's copies, stores and starts copying its own rows, then
  waits for these and for the third step's, so that nothing is left under way.
-/
module

public import proofs.«01_k».proof.Proof.KernelIdeal.Contents

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UC sig nD τ) ℕ

set_option maxHeartbeats 1000000 in
theorem run_last (c : Dev nD) (t : Fin cfg0.N) (arg1 : Memref sig .tc .vmem S8x256 .i32) (harg1 : arg1.IsWhole) (arg2 : Memref sig .tc .vmem S128x16 .f32) (harg2 : arg2.IsWhole) (arg3 : Memref sig .tc .vmem S4096x128 .f32) (harg3 : arg3.IsWhole)
    (h1 : t.val = 3) (x0 : Vec F S8x256 .i32) (x1 : Vec F S128x16 .f32) (x2 : Vec F S4096x128 .f32) (p : Vec F S128x256 .f32)
    (G₀ G : At (F := F) c outM) (hG : RowsAre G (Ring.bk 4 t.val) x2 p) (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) projM fullShare p ∗ home c G₀ (Ring.bk 4 t.val) ∗ infl c G (Ring.sl 2 t.val) (Ring.bk 4 (t.val - 2)) ∗ infl c G (Ring.sl 2 (t.val + 1)) (Ring.bk 4 (t.val - 1)) ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) projM fullShare p ∗ home c G (Ring.bk 4 (t.val - 2)) ∗ home c G (Ring.bk 4 t.val) ∗ home c G (Ring.bk 4 (t.val - 1)) ∗ free c (Ring.sl 2 t.val) ∗ free c (Ring.sl 2 (t.val + 1)) ∗ (∃ W', owes (c : Thread nD τ) 0 W')) -∗ K ⟨⟩))
      ⊢ wp frame (wpE (defs₀ (F := F)) Variants.none c none) Set.univ (cc0__tc_body (grid0.coords t) arg1 harg1 arg2 harg2 arg3 harg3 (Memref.whole main_v13) (Memref.isWhole_whole _) (Memref.whole cc0_scratch0) (Memref.isWhole_whole _) (Memref.whole cc0_scratch1) (Memref.isWhole_whole _) (Memref.whole cc0_scratch2) (Memref.isWhole_whole _) cc0_scratch3 cc0_scratch4) K := by
  have hc1 : ¬ isFirst (grid0.coords t) := fun h => by have := (first_iff t).mp h; omega
  have hc2 : k0_cond2 (grid0.coords t) = 1#1 := (conds t).1.mpr (by omega)
  have h2 : 2 ≤ t.val := by omega
  have hc3 : k0_cond3 (grid0.coords t) = 1#1 := (conds t).2.1.mpr h1
  have hc4 : k0_cond4 (grid0.coords t) = 1#1 := (conds t).2.2.1
  have hc5 : k0_cond5 (grid0.coords t) = 1#1 := (conds t).2.2.2.mpr (by omega)
  simp only [cc0__tc_body_eq_skeleton]; unfold cc0__tc_body_skel
  unfold owns
  iintro ⟨⟨%f0, %hf0, H0⟩, ⟨%f1, %hf1, H1⟩, ⟨%f2, %hf2, H2⟩, ⟨%fp, %hfp, Hp⟩, ⟨HwP, HlP⟩, ⟨⟨%ew, HwF⟩, ⟨%el, HlF⟩⟩, ⟨⟨%ew1, HwF1⟩, ⟨%el1, HlF1⟩⟩, HW, Hk⟩
  obtain rfl := harg1.eq_unread hf0; obtain rfl := harg2.eq_unread hf1; obtain rfl := harg3.eq_unread hf2
  sl_exec (disch := first | sl_exact hc1 | sl_exact hc2 | sl_exact hc3 | sl_exact hc4 | sl_exact hc5)
  sl_step
  iapply Hk
  have hw : ∀ i ∈ (widePiece (Ring.bk 4 t.val)).view.set, (widePiece (Ring.bk 4 t.val)).view.writes (Elt F) G₀
      [⟨Rect.whole S4096x128, run_last.sl.dma6_1 c t arg3 harg3 x2 fp ew⟩] i = G i :=
    wide_landed hG (offs_now t).1 (loads_rows harg3 x2) (loads_proj hfp) _ ew G₀
  have hl : ∀ i ∈ (lastPiece (Ring.bk 4 t.val)).view.set, (lastPiece (Ring.bk 4 t.val)).view.writes (Elt F) G₀
      [⟨Rect.whole S4096x1, run_last.sl.dma6 c t arg3 harg3 x2 fp el⟩] i = G i :=
    last_landed hG (offs_now t).2.1 (loads_rows harg3 x2) (loads_proj hfp) _ el G₀
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [Hp]; · iexists _; isplitr; · ipureintro; exact hfp
                  iexact Hp
  isplitl [HwF_dst HlF_dst]; · isplitl [HwF_dst]; · iexact HwF_dst
                               iexact HlF_dst
  isplitl [HwP HlP]
  · isplitl [HwP]
    · iapply held_of hw $$ HwP
    · iapply held_of hl $$ HlP
  isplitl [HwF1_dst HlF1_dst]; · isplitl [HwF1_dst]; · iexact HwF1_dst
                                 iexact HlF1_dst
  isplitl [HwF HwF_src HlF HlF_src]
  · isplitl [HwF HwF_src]
    · isplitl [HwF]; · iexact HwF
      iexists _; iexact HwF_src
    · isplitl [HlF]; · iexact HlF
      iexists _; iexact HlF_src
  isplitl [HwF1 HwF1_src HlF1 HlF1_src]
  · isplitl [HwF1 HwF1_src]
    · isplitl [HwF1]; · iexact HwF1
      iexists _; iexact HwF1_src
    · isplitl [HlF1]; · iexact HlF1
      iexists _; iexact HlF1_src
  iexists _; iexact HW

end Cert.KernelIdeal.Copies

end
-- ==== Proof.KernelIdeal.Run.lean ====
/-
  The whole kernel, run: its steps put together, launched, and what it leaves in the result.

  The projection is built by the first step and kept; every step's rows of the result are the product of its rows of the
  input and that projection. So the run ends with the result at the array gathered from those products, the three
  argument arrays as launched, and every semaphore at zero.
-/
module

public import proofs.«01_k».proof.Proof.KernelIdeal.Whole
public import proofs.«01_k».proof.Proof.KernelIdeal.RunFirst
public import proofs.«01_k».proof.Proof.KernelIdeal.RunSecond
public import proofs.«01_k».proof.Proof.KernelIdeal.RunThird
public import proofs.«01_k».proof.Proof.KernelIdeal.RunLast
public import Idealize.ShloMosaic.Lib.Claim
public import Idealize.ShloMosaic.Lib.Pointwise.Index

@[expose] public section

set_option maxRecDepth 16384

noncomputable section

namespace Cert.KernelIdeal.Copies

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## The array of all the products' rows -/

/-- Row `r` is row `r % 4096` of the product of `xs (r / 4096)` and `p`, its first 129 columns. -/
def gather (xs : Fin 4 → Vec F S4096x128 .f32) (p : Vec F S128x256 .f32) : outM.view.ty.Contents (Elt F) :=
  fun i : S16384x129.Idx => k0_pay3 (xs ⟨(i 0).val / 4096, Nat.div_lt_of_lt_mul (i 0).isLt⟩) p
    (ix2 (n0 := 4096) (n1 := 256) ⟨(i 0).val % 4096, Nat.mod_lt _ (by decide)⟩ ⟨(i 1).val, lt_trans (i 1).isLt (by decide)⟩)

theorem gather_rows (xs : Fin 4 → Vec F S4096x128 .f32) (p : Vec F S128x256 .f32) (u : Fin 4) : RowsAre (gather xs p) u (xs u) p := by
  have key : ∀ (i : S16384x129.Idx) (j : S4096x256.Idx), (i 0).val = 4096 * u.val + (j 0).val → (i 1).val = (j 1).val →
      gather xs p i = k0_pay3 (xs u) p j := by
    intro i j h0 h1
    have hj : (j 0).val < 4096 := (j 0).isLt
    have hu : (⟨(i 0).val / 4096, Nat.div_lt_of_lt_mul (i 0).isLt⟩ : Fin 4) = u := Fin.ext (by show (i 0).val / 4096 = u.val; omega)
    unfold gather
    rw [hu]
    congr 1
    funext a
    match a with
    | ⟨0, _⟩ => exact Fin.ext (show (i 0).val % 4096 = (j 0).val by omega)
    | ⟨1, _⟩ => exact Fin.ext h1
  refine ⟨funext fun j => ?_, funext fun j => ?_⟩
  · exact key _ _ (show 4096 * u.val + 1 * (j 0).val = 4096 * u.val + (0 + (j 0).val) by omega) (show 0 + 1 * (j 1).val = 0 + (j 1).val by omega)
  · exact key _ _ (show 4096 * u.val + 1 * (j 0).val = 4096 * u.val + (0 + (j 0).val) by omega) (show 128 + 1 * (j 1).val = 128 + (j 1).val by omega)

variable [Named F]
variable (m : (ℓ : Loc nD τ sig) → Buf (Elt F) ℓ) (ρ : Dev nD → PrngReg)

/-- The step of a number below four. -/
def step (u : Fin 4) : Fin cfg0.N := ⟨u.val, lt_of_lt_of_eq u.isLt N_0.symm⟩
/-- The projection, of the index rows and the weights the first step is given. -/
def proj (c : Dev nD) : Vec F S128x256 .f32 := projOf (iblk m c 0 (step 0)) (iblk m c 1 (step 0))
/-- The result. -/
def result (c : Dev nD) : At (F := F) c outM := gather (fun u => iblk m c 2 (step u)) (proj m c)

theorem step_bk (t : Fin cfg0.N) : step (Ring.bk 4 t.val) = t :=
  Fin.ext (Nat.mod_eq_of_lt (lt_of_lt_of_eq t.isLt N_0))
theorem result_rows (c : Dev nD) (t : Fin cfg0.N) : RowsAre (result m c) (Ring.bk 4 t.val) (iblk m c 2 t) (proj m c) := by
  have := gather_rows (fun u => iblk m c 2 (step u)) (proj m c) (Ring.bk 4 t.val)
  rw [step_bk] at this
  exact this

/-! ## The proof data -/

/-- The projection's buffer before step `k`: anything at first, the projection afterwards. -/
def projAt (c : Dev nD) (k : ℕ) : sProp 𝕄 :=
  if k = 0 then iprop(∃ p, owns (c : Thread nD τ) projM fullShare p) else owns (c : Thread nD τ) projM fullShare (proj m c)

def Phi (c : Dev nD) (k : ℕ) : sProp 𝕄 :=
  iprop((∃ r, prngReg c r) ∗ projAt m c k ∗ ringAt c (V m c main_v13) (result m c) k)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Phi m c t.val
  q _ := fullShare
  owed _ := 0

theorem A_eq (c : Dev nD) (w : Fin cfg0.W) : (dats m 0 c).A w = V m c (Pipeline.arrRef spec0 w) := by
  dsimp only [dats]
theorem Phi_before (c : Dev nD) (t : Fin cfg0.N) : (dats m 0 c).Φ t.castSucc = Phi m c t.val := by
  dsimp only [dats]; simp only [Fin.val_castSucc]
theorem Phi_after (c : Dev nD) (t : Fin cfg0.N) : (dats m 0 c).Φ t.succ = Phi m c (t.val + 1) := by
  dsimp only [dats]; simp only [Fin.val_succ]

/-- A step leaves each input's staging buffer as it found it, -/
theorem leaves (c : Dev nD) (t : Fin cfg0.N) : (dats m 0 c).after 0 t = iblk m c 0 t ∧ (dats m 0 c).after 1 t = iblk m c 1 t
    ∧ (dats m 0 c).after 2 t = iblk m c 2 t := by dsimp only [dats]; exact ⟨rfl, rfl, rfl⟩
/-- and finds there the block of that step, whether it was fetched at it or earlier. -/
theorem finds0 (c : Dev nD) (t : Fin cfg0.N) (d) : (dats m 0 c).before 0 t d = iblk m c 0 t :=
  ((dats m 0 c).before_in_eq_fetched 0 rfl (fun _ => rfl) (fun _ _ _ => rfl)
    (fun t => by rw [(leaves m c t).1]; unfold Dat.blockOf iblk; rw [A_eq]; try rfl) t d).trans (by unfold Dat.fetched Dat.blockOf iblk; rw [A_eq]; try rfl)
theorem finds1 (c : Dev nD) (t : Fin cfg0.N) (d) : (dats m 0 c).before 1 t d = iblk m c 1 t :=
  ((dats m 0 c).before_in_eq_fetched 1 rfl (fun _ => rfl) (fun _ _ _ => rfl)
    (fun t => by rw [(leaves m c t).2.1]; unfold Dat.blockOf iblk; rw [A_eq]; try rfl) t d).trans (by unfold Dat.fetched Dat.blockOf iblk; rw [A_eq]; try rfl)
theorem finds2 (c : Dev nD) (t : Fin cfg0.N) (d) : (dats m 0 c).before 2 t d = iblk m c 2 t :=
  ((dats m 0 c).before_in_eq_fetched 2 rfl (fun _ => rfl) (fun _ _ _ => rfl)
    (fun t => by rw [(leaves m c t).2.2]; unfold Dat.blockOf iblk; rw [A_eq]; try rfl) t d).trans (by unfold Dat.fetched Dat.blockOf iblk; rw [A_eq]; try rfl)

/-! ## One step -/

/-- The three inputs' staging memrefs at step `t`. -/
abbrev stage0 (t : Fin cfg0.N) : Memref sig .tc .vmem S8x256 .i32 := win0_0.stage (cfg0.slots t 0)
abbrev stage1 (t : Fin cfg0.N) : Memref sig .tc .vmem S128x16 .f32 := win0_1.stage (cfg0.slots t 1)
abbrev stage2 (t : Fin cfg0.N) : Memref sig .tc .vmem S4096x128 .f32 := win0_2.stage (cfg0.slots t 2)

/-- What the body is called with at step `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  have hG := result_rows m c t
  have hN : t.val < 4 := lt_of_lt_of_eq t.isLt (show cfg0.N = 4 from N_0)
  unfold bodyPre bodyPost bodyAt0
  simp only [finds0, finds1, finds2]
  rw [(leaves m c t).1, (leaves m c t).2.1, (leaves m c t).2.2]
  rw [Phi_before m c t, Phi_after m c t]
  unfold Dat.owesAt Pipeline.owesWithin
  rw [show (dats m 0 c).owed t.castSucc = 0 from rfl, show (dats m 0 c).owed t.succ = 0 from rfl]
  unfold Phi
  rw [show projAt m c (t.val + 1) = owns (c : Thread nD τ) projM fullShare (proj m c) from if_neg (Nat.succ_ne_zero _)]
  unfold ringAt
  by_cases h0 : t.val = 0
  · have ht : t = step 0 := Fin.ext h0
    rw [show projAt m c t.val = iprop(∃ p, owns (c : Thread nD τ) projM fullShare p) from if_pos h0,
      Ring.AtBΦ_lt _ _ _ _ _ t.val hN, Ring.AtB2_zero' 2 _ _ _ _ t.val h0,
      Ring.AtBΦ_lt _ _ _ _ _ (t.val + 1) (by omega), Ring.AtB22_next_zero' _ _ _ _ t.val h0]
    have hp : proj m c = projOf (iblk m c 0 t) (iblk m c 1 t) := by rw [ht]; rfl
    rw [hp] at hG ⊢
    iintro ⟨⟨Hg, Hp, ⟨HP, HA⟩, HS, HS'⟩, ⟨%W, -, HW⟩, ⟨%d0, H0⟩, ⟨%d1, H1⟩, ⟨%d2, H2⟩⟩
    iapply (run_first c t _ _ _ _ _ _ h0 (iblk m c 0 t) (iblk m c 1 t) (iblk m c 2 t) (V m c main_v13) (result m c) hG W _)
    isplitl [H0]; · iexact H0
    isplitl [H1]; · iexact H1
    isplitl [H2]; · iexact H2
    isplitl [Hp]; · iexact Hp
    isplitl [HP]; · iexact HP
    isplitl [HS]; · iexact HS
    isplitl [HW]; · iexact HW
    iintro ⟨H0, H1, H2, Hp, HI, ⟨%W', HW'⟩⟩
    isplitl [Hg Hp HA HS' HI]
    · isplitl [Hg]; · iexact Hg
      isplitl [Hp]; · iexact Hp
      isplitl [HA]; · iexact HA
      isplitl [HS']; · iexact HS'
      iexact HI
    isplitl [HW']
    · iexists W'; isplitr; · ipureintro; exact fun _ _ => Or.inl trivial
      iexact HW'
    isplitl [H0]; · iexact H0
    isplitl [H1]; · iexact H1
    iexact H2
  rw [show projAt m c t.val = owns (c : Thread nD τ) projM fullShare (proj m c) from if_neg h0]
  by_cases h1 : t.val = 1
  · rw [Ring.AtBΦ_lt _ _ _ _ _ t.val hN, Ring.AtB22_one' _ _ _ _ t.val h1 (by decide),
      Ring.AtBΦ_lt _ _ _ _ _ (t.val + 1) (by omega), Ring.AtB22_next_one' _ _ _ _ t.val h1]
    iintro ⟨⟨Hg, Hp, ⟨HP, HA⟩, HS, HI'⟩, ⟨%W, -, HW⟩, ⟨%d0, H0⟩, ⟨%d1, H1⟩, ⟨%d2, H2⟩⟩
    iapply (run_second c t _ _ _ _ _ _ h1 (iblk m c 0 t) (iblk m c 1 t) (iblk m c 2 t) (proj m c) (V m c main_v13) (result m c) hG W _)
    isplitl [H0]; · iexact H0
    isplitl [H1]; · iexact H1
    isplitl [H2]; · iexact H2
    isplitl [Hp]; · iexact Hp
    isplitl [HP]; · iexact HP
    isplitl [HS]; · iexact HS
    isplitl [HW]; · iexact HW
    iintro ⟨H0, H1, H2, Hp, HI, ⟨%W', HW'⟩⟩
    isplitl [Hg Hp HA HI' HI]
    · isplitl [Hg]; · iexact Hg
      isplitl [Hp]; · iexact Hp
      isplitl [HA]; · iexact HA
      isplitl [HI']; · iexact HI'
      iexact HI
    isplitl [HW']
    · iexists W'; isplitr; · ipureintro; exact fun _ _ => Or.inl trivial
      iexact HW'
    isplitl [H0]; · iexact H0
    isplitl [H1]; · iexact H1
    iexact H2
  by_cases h2 : t.val = 2
  · rw [Ring.AtBΦ_lt _ _ _ _ _ t.val hN, Ring.AtB22_here _ _ _ _ t.val (by omega) (by omega),
      Ring.AtBΦ_lt _ _ _ _ _ (t.val + 1) (by omega), Ring.AtB22_next _ _ _ _ t.val (by omega) (by omega)]
    iintro ⟨⟨Hg, Hp, ⟨HP, HA⟩, HB, HI, HI'⟩, ⟨%W, -, HW⟩, ⟨%d0, H0⟩, ⟨%d1, H1⟩, ⟨%d2, H2⟩⟩
    iapply (run_third c t _ _ _ _ _ _ h2 (iblk m c 0 t) (iblk m c 1 t) (iblk m c 2 t) (proj m c) (V m c main_v13) (result m c) hG W _)
    isplitl [H0]; · iexact H0
    isplitl [H1]; · iexact H1
    isplitl [H2]; · iexact H2
    isplitl [Hp]; · iexact Hp
    isplitl [HP]; · iexact HP
    isplitl [HI]; · iexact HI
    isplitl [HW]; · iexact HW
    iintro ⟨H0, H1, H2, Hp, HD, HI, ⟨%W', HW'⟩⟩
    isplitl [Hg Hp HA HB HD HI' HI]
    · isplitl [Hg]; · iexact Hg
      isplitl [Hp]; · iexact Hp
      isplitl [HA]; · iexact HA
      isplitl [HD HB]; · isplitl [HD]; · iexact HD
                         iexact HB
      isplitl [HI']; · iexact HI'
      iexact HI
    isplitl [HW']
    · iexists W'; isplitr; · ipureintro; exact fun _ _ => Or.inl trivial
      iexact HW'
    isplitl [H0]; · iexact H0
    isplitl [H1]; · iexact H1
    iexact H2
  · have h3 : t.val = 3 := by omega
    rw [Ring.AtBΦ_lt _ _ _ _ _ t.val hN, Ring.AtB22_here_last _ _ _ _ t.val (by omega) (by omega),
      Ring.AtBΦ_end _ _ _ _ _ (t.val + 1) (by omega), Ring.AtB22_drained _ _ t.val (by omega) (by omega)]
    iintro ⟨⟨Hg, Hp, HP, HB, HI, HI'⟩, ⟨%W, -, HW⟩, ⟨%d0, H0⟩, ⟨%d1, H1⟩, ⟨%d2, H2⟩⟩
    iapply (run_last c t _ _ _ _ _ _ h3 (iblk m c 0 t) (iblk m c 1 t) (iblk m c 2 t) (proj m c) (V m c main_v13) (result m c) hG W _)
    isplitl [H0]; · iexact H0
    isplitl [H1]; · iexact H1
    isplitl [H2]; · iexact H2
    isplitl [Hp]; · iexact Hp
    isplitl [HP]; · iexact HP
    isplitl [HI]; · iexact HI
    isplitl [HI']; · iexact HI'
    isplitl [HW]; · iexact HW
    iintro ⟨H0, H1, H2, Hp, HD2, HD, HD1, HS, HS', ⟨%W', HW'⟩⟩
    isplitl [Hg Hp HB HD2 HD HD1 HS HS']
    · isplitl [Hg]; · iexact Hg
      isplitl [Hp]; · iexact Hp
      isplitl [HB HD2 HD HD1]
      · isplitl [HD]; · iexact HD
        isplitl [HD2]; · iexact HD2
        isplitl [HD1]; · iexact HD1
        iexact HB
      isplitl [HS]; · iexact HS
      iexact HS'
    isplitl [HW']
    · iexists W'; isplitr; · ipureintro; exact fun _ _ => Or.inl trivial
      iexact HW'
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's own semaphores. -/
abbrev ownSem : Fin 4 → SemLoc sig := ![SemLoc.dma 4, SemLoc.dma 5, SemLoc.dma 6, SemLoc.dma 7]
theorem ownSem_facts : Pipeline.OwnSemFacts spec0 ownSem := by decide
theorem ownSems_eq (c : Dev nD) : (Pipeline.ownSems0 ownSem c : sProp 𝕄) = cells c :=
  Pipeline.ownSems0_eq_of_list c ownSem [0, 1, 2, 3] (by decide) (by decide)

/-- What the launch is told of the buffer it routes: the result as found, and as left. -/
def left (c : Dev nD) (b : Ref sig .tc) : Buf (Elt F) ((c : Thread nD τ).loc b) :=
  if h : b = main_v13 then h ▸ result m c else V m c b
theorem left_result (c : Dev nD) : left m c main_v13 = result m c := dif_pos rfl

theorem hin (c : Dev nD) : Pipeline.Ends spec0 ownSem {main_v13} c (V m c) ⊢ (dats m 0 c).Φ 0 := by
  rw [show (dats m 0 c).Φ 0 = Phi m c 0 from rfl]
  unfold Phi Pipeline.Ends
  rw [Pipeline.routed_singleton, ownSems_eq, scopedRest0_eq, ring_zero, ← result_whole,
    show projAt m c 0 = iprop(∃ p, owns (c : Thread nD τ) projM fullShare p) from if_pos rfl]
  simp only [owns_whole]
  iintro ⟨HR, HC, ⟨HP, HW, HL⟩, Hg⟩
  isplitl [Hg]; · iexact Hg
  isplitl [HP]; · iexact HP
  isplitl [HR]; · iexact HR
  iapply frees_in c
  isplitl [HC]; · iexact HC
  isplitl [HW]; · iexact HW
  iexact HL

theorem hout (c : Dev nD) : (dats m 0 c).Φ (Fin.last cfg0.N) ⊢ Pipeline.Ends spec0 ownSem {main_v13} c (left m c) := by
  rw [show (dats m 0 c).Φ (Fin.last cfg0.N) = Phi m c grid0.N from rfl, show grid0.N = 4 from N_0]
  unfold Phi Pipeline.Ends
  rw [Pipeline.routed_singleton, ownSems_eq, scopedRest0_eq, ring_end, ← result_whole, left_result,
    show projAt m c 4 = owns (c : Thread nD τ) projM fullShare (proj m c) from if_neg (by decide)]
  simp only [owns_whole]
  iintro ⟨Hg, HP, HR, HS⟩
  ihave HS := frees_out c $$ HS
  icases HS with ⟨HC, HW, HL⟩
  isplitl [HR]; · iexact HR
  isplitl [HC]; · iexact HC
  isplitr [Hg]
  · isplitl [HP]; · iexists _; iexact HP
    isplitl [HW]; · iexact HW
    iexact HL
  iexact Hg

set_option maxHeartbeats 800000 in
theorem main_prefix : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.RoutedPost cfgs (dats m) 0 {main_v13} (V m) (left m) r ∧ r.2.sem = fun _ => 0) :=
  Pipeline.θ_run_frame_routed (Q' := _) cfgs (dats m) (0 : Fin 1) launch0 ownSem_facts defs₀ Variants.none m ρ main
    (hbody := fun c => (body_obligation m c).loose) (hshare := fun c => (dats m 0 c).share_full fun _ => rfl)
    (howed := fun _ _ => rfl) (V := V m) (hmain := main_prefix m) (hA := A_eq m) (R := {main_v13}) (hR := by decide) (Y := left m)
    (hin := hin m) (hout := hout m)

/-- THE RUN: the arguments end as launched, the result at `result`, every semaphore at zero. -/
theorem runs : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v13) = result m c) ∧ r.2.sem = fun _ => 0) :=
  (θ_run defs _ _).mono (fun _ h => ⟨fun c => ⟨⟨((h.1 c).1 2).trans (((dats m 0 c).arrAt_in 2 rfl _).trans ((A_eq m c 2).trans (V_main_arg0 m c))),
      ((h.1 c).2.2 main_arg1 (by decide)).trans (V_main_arg1 m c), ((h.1 c).2.2 main_arg2 (by decide)).trans (V_main_arg2 m c)⟩,
      ((h.1 c).2.1 main_v13 (by decide)).trans (left_result m c)⟩, h.2⟩) (run_main m ρ)

end Cert.KernelIdeal.Copies

end
-- ==== Proof.Counts.lean ====
/- Sums over the extended reals in which one factor counts: a 0/1 mark that says whether a word is a given number, and the sums of
   such marks. A sum of products with counts is a sum of the entries the words name, because multiplication distributes over a sum
   of terms that are not negative, whatever the other factor is (an infinity included). A positive real factor comes out of any sum
   for the same reason. Nothing here speaks of a program. -/
module

public import Mathlib.Data.EReal.Inv
public import Mathlib.Algebra.BigOperators.Fin

@[expose] public section

noncomputable section

namespace Cert.Counts

/-- One where the word `w` is the number `k`, zero elsewhere. -/
def mark (k : Nat) (w : BitVec 32) : EReal := if BitVec.ofNat 32 k = w then 1 else 0

theorem mark_nonneg (k : Nat) (w : BitVec 32) : 0 ≤ mark k w := by
  unfold mark; split
  · exact zero_le_one
  · exact le_rfl

/-- Any factor distributes over a finite sum of terms that are not negative. -/
theorem mul_sum_of_nonneg {ι : Type} (S : Finset ι) (x : EReal) (f : ι → EReal) (hf : ∀ i, 0 ≤ f i) :
    x * ∑ i ∈ S, f i = ∑ i ∈ S, x * f i := by
  classical
  induction S using Finset.induction_on with
  | empty => simp
  | insert a S ha ih =>
    rw [Finset.sum_insert ha, Finset.sum_insert ha, EReal.left_distrib_of_nonneg (hf a) (Finset.sum_nonneg fun i _ => hf i), ih]

/-- A real factor that is not negative distributes over any finite sum. -/
theorem sum_mul_real {ι : Type} (S : Finset ι) (r : ℝ) (hr : 0 ≤ r) (f : ι → EReal) :
    (∑ i ∈ S, f i) * (r : EReal) = ∑ i ∈ S, f i * (r : EReal) := by
  classical
  induction S using Finset.induction_on with
  | empty => simp
  | insert a S ha ih =>
    rw [Finset.sum_insert ha, Finset.sum_insert ha, ← ih, mul_comm, mul_comm (f a), mul_comm (∑ i ∈ S, f i),
      EReal.left_distrib_of_nonneg_of_ne_top (by exact_mod_cast hr) (EReal.coe_ne_top r)]

/-- The marks of one word pick one entry: the word's. -/
theorem sum_mul_mark {n : Nat} (hn : n ≤ 2 ^ 32) (f : Fin n → EReal) (j : Fin n) :
    ∑ k : Fin n, f k * mark k.val (BitVec.ofNat 32 j.val) = f j := by
  rw [Finset.sum_eq_single j]
  · rw [mark, if_pos rfl, mul_one]
  · intro k _ hk
    rw [mark, if_neg, mul_zero]
    intro h
    apply hk
    have := congrArg BitVec.toNat h
    rw [BitVec.toNat_ofNat, BitVec.toNat_ofNat, Nat.mod_eq_of_lt (lt_of_lt_of_le k.isLt hn),
      Nat.mod_eq_of_lt (lt_of_lt_of_le j.isLt hn)] at this
    exact Fin.ext this
  · intro h; exact absurd (Finset.mem_univ j) h

/-- Products with the counts of several words sum to the sum of the words' entries. -/
theorem sum_mul_count {n q : Nat} (hn : n ≤ 2 ^ 32) (f : Fin n → EReal) (j : Fin q → Fin n) :
    ∑ k : Fin n, f k * ∑ i : Fin q, mark k.val (BitVec.ofNat 32 (j i).val) = ∑ i : Fin q, f (j i) := by
  rw [Finset.sum_congr rfl fun k _ => mul_sum_of_nonneg Finset.univ (f k) _ fun i => mark_nonneg _ _, Finset.sum_comm]
  exact Finset.sum_congr rfl fun i _ => sum_mul_mark hn f (j i)

end Cert.Counts
-- ==== Proof.KernelIdeal.Value.lean ====
/- What the kernel's result is, entry by entry, at the ideal values. The host lays the words out in eight rows of 256 columns (the first
   column names the first feature once, the next 128 each a phone's seven features, 15 filling what is left) and puts a row of zeros
   under the fifteen features. The body counts, per column, how often each of the sixteen numbers occurs, multiplies the features by
   the counts and by the named scale, and multiplies the rows of the input by that. A product with counts is the sum of the entries
   the words name (Proof/Counts.lean), so an entry of the result is a row of the input times the scaled sum of a column's features. -/
module

public import proofs.«01_k».proof.Proof.KernelIdeal.Run
public import proofs.«01_k».proof.Proof.Counts
public import Idealize.ShloMosaic.Lib.Pointwise
public import Idealize.ShloMosaic.Lib.StableHlo.RunClose

@[expose] public section

set_option maxRecDepth 16384

noncomputable section

namespace Cert.KernelIdeal.Copies

open Cert.KernelIdeal.Gen
open Idealize.ShloMosaic Idealize.ShloMosaic.TcCoe Idealize.ShloMosaic.Tactic Idealize.SL.Sem

/-- A comparison for equality, widened and converted, is the mark. -/
theorem sitofp_mark (k : Nat) (w : BitVec 32) :
   (FloatOps.sitofp FTy.f32 (BitVec.setWidth 32 (IntOp.cmpi CmpIPredicate.eq (BitVec.ofNat 32 k) w)) : Ideal .f32)
     = Counts.mark k w := by
  unfold Counts.mark
  show ((((BitVec.setWidth 32 (BitVec.ofBool (BitVec.ofNat 32 k == w))).toInt : ℤ) : ℝ) : EReal) = _
  by_cases h : BitVec.ofNat 32 k = w
  · rw [if_pos h, beq_iff_eq.2 h]; simp
  · rw [if_neg h, beq_eq_false_iff_ne.2 h]; simp

/-- A block of the result: the rows of its input times the columns of the projection. -/
theorem pay3_at (x : Vec Ideal S4096x128 .f32) (p : Vec Ideal S128x256 .f32) (r : Fin 4096) (c : Fin 256) :
    k0_pay3 x p (ix2 r c) = ∑ e : Fin 128, x (ix2 r e) * p (ix2 e c) := by
  unfold k0_pay3
  pointwise

/-- Row `n` of the eight rows of words, at column `c`. -/
theorem row_at (x : Vec Ideal S8x256 .i32) (n : Nat) (hn : n < 8) (h) (c : Fin 256) :
    VecWindow.window x ![n, 0] ![1, 256] h (ix2 0 c) = x (ix2 ⟨n, hn⟩ c) := by
  refine congrArg x (funext fun a => Fin.ext ?_)
  match a with
  | ⟨0, _⟩ => show n + 1 * 0 = n; rfl
  | ⟨1, _⟩ => show 0 + 1 * c.val = c.val; omega

set_option maxHeartbeats 2000000 in
/-- The projection at a column whose eight words are the numbers `j`: the scaled sum of the features they name. -/
theorem projOf_at (x : Vec Ideal S8x256 .i32) (w : Vec Ideal S128x16 .f32) (e : Fin 128) (c : Fin 256) (j : Fin 8 → Fin 16)
    (hj : ∀ i, x (ix2 i c) = BitVec.ofNat 32 (j i).val) :
    projOf x w (ix2 e c) = (∑ i, w (ix2 e (j i))) * (((Real.sqrt 128)⁻¹ : ℝ) : EReal) := by
  rw [← Counts.sum_mul_count (by decide) (fun k => w (ix2 e k)) j]
  unfold projOf k0_pay2 k0_pay1
  pointwise
  simp only [sitofp_mark, Fin.sum_univ_eight]
  have h := fun n hn hi => (row_at x n hn hi c).trans (hj ⟨n, hn⟩)
  rw [h 0 (by decide), h 1 (by decide), h 2 (by decide), h 3 (by decide), h 4 (by decide), h 5 (by decide), h 6 (by decide),
    h 7 (by decide)]
  rfl

/-- The feature words as the kernel counts them. -/
def slots (t : Vec Ideal S128x7 .i32) : Vec Ideal S8x256 .i32 :=
  concatenate S8x256 1 [⟨S8x1, Host.scatter scatter_S8x1_S2_S__n_01_01_0 (fun _ b => b) (broadcastInDim S8x1 ![] bcast_S_S8x1 (constantI S_ 32 15#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (constantI S_ 32 0#32)⟩,
    ⟨S8x128, concatenate S8x128 0 [⟨S7x128, transpose S7x128 [1, 0] t transposes_S128x7_S7x128_1_0⟩, ⟨S1x128, broadcastInDim S1x128 ![] bcast_S_S1x128 (constantI S_ 32 15#32)⟩] concatenates_S7x128_S1x128_S8x128_d0⟩,
    ⟨S8x127, broadcastInDim S8x127 ![] bcast_S_S8x127 (constantI S_ 32 15#32)⟩] concatenates_S8x1_S8x128_S8x127_S8x256_d1

/-- The host's words are `slots` of the table. -/
theorem V_idx (m : (ℓ : Loc nD τ sig) → Buf (Elt Ideal) ℓ) (c : Dev nD) : (V m c main_v12 : Vec Ideal S8x256 .i32) = slots (m (c.tc.loc main_arg2)) := by
  unfold V hostOps0
  after_results_entrywise []

/-- The features and the row of zeros below them, transposed. -/
def rows (t : Vec Ideal S15x128 .f32) : FVec Ideal S128x16 .f32 :=
  transpose S128x16 [1, 0] (concatenate S16x128 0 [⟨S15x128, t⟩, ⟨S1x128, broadcastInDim S1x128 ![] bcast_S_S1x128 (constant (F := Ideal) S_ FTy.f32 0#32)⟩]
    concatenates_S15x128_S1x128_S16x128_d0) transposes_S16x128_S128x16_1_0

/-- The host's features are `rows` of the weights. -/
theorem V_rows (m : (ℓ : Loc nD τ sig) → Buf (Elt Ideal) ℓ) (c : Dev nD) : (V m c main_v2 : Vec Ideal S128x16 .f32) = rows (m (c.tc.loc main_arg1)) := by
  unfold V hostOps0
  after_results_entrywise []

/-- A feature's entry; zero at number 15. -/
theorem rows_at (t : Vec Ideal S15x128 .f32) (e : Fin 128) (k : Fin 16) :
    rows t (ix2 e k) = if h : k.val < 15 then t (ix2 ⟨k.val, h⟩ e) else 0 := by
  unfold rows
  pointwise

/-- The column the host writes one word of: the number 0, then 15 seven times. -/
theorem first_col : ∀ i : Fin 8, Host.scatter scatter_S8x1_S2_S__n_01_01_0 (fun _ b => b) (broadcastInDim S8x1 ![] bcast_S_S8x1 (constantI S_ 32 15#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (constantI S_ 32 0#32) (ix2 i 0) = if i = 0 then 0#32 else 15#32 := by
  decide +kernel

/-- Column 0 of the words. -/
theorem slots_zero (t : Vec Ideal S128x7 .i32) (i : Fin 8) : slots t (ix2 i 0) = if i = 0 then 0#32 else 15#32 := by
  rw [← first_col]
  unfold slots
  pointwise

/-- Column `q + 1` of the words: phone `q`'s seven features, then 15. -/
theorem slots_succ (t : Vec Ideal S128x7 .i32) (i : Fin 8) (q : Fin 128) :
   slots t (ix2 i ⟨q.val + 1, by omega⟩) = if h : i.val < 7 then t (ix2 q ⟨i.val, h⟩) else 15#32 := by
  unfold slots
  pointwise
  rw [dif_neg (by omega), dif_pos (show q.val + 1 - 1 < 128 by omega)]
  rfl

variable (m : (ℓ : Loc nD τ sig) → Buf (Elt Ideal) ℓ)

/-- The words' window is their whole array. -/
theorem words_block (c : Dev nD) (t : Fin cfg0.N) : (iblk m c 0 t : Vec Ideal S8x256 .i32) = V m c main_v12 := by
  refine funext fun y => congrArg (V m c main_v12) (funext fun a => Fin.ext ?_)
  match a with
  | ⟨0, _⟩ => show 0 * 8 + 1 * (y 0).val = (y 0).val; omega
  | ⟨1, _⟩ => show 0 * 256 + 1 * (y 1).val = (y 1).val; omega

/-- The features' window is their whole array. -/
theorem rows_block (c : Dev nD) (t : Fin cfg0.N) : (iblk m c 1 t : Vec Ideal S128x16 .f32) = V m c main_v2 := by
  refine funext fun y => congrArg (V m c main_v2) (funext fun a => Fin.ext ?_)
  match a with
  | ⟨0, _⟩ => show 0 * 128 + 1 * (y 0).val = (y 0).val; omega
  | ⟨1, _⟩ => show 0 * 16 + 1 * (y 1).val = (y 1).val; omega

/-- The input array. -/
abbrev input (c : Dev nD) : FVec Ideal S16384x128 .f32 := m (c.tc.loc main_arg0)

/-- Step `u` is given the input's block `u`. -/
theorem block_row : ∀ u : Fin 4, (cfg0.win 2).index (step u) (0 : Fin 2) = u.val := by
  decide +kernel

/-- The input's window at step `u`: 4096 rows from row `4096 * u` on. -/
theorem input_block (c : Dev nD) (u : Fin 4) (r : Fin 16384) (e : Fin 128) (hu : r.val / 4096 = u.val) :
    (iblk m c 2 (step u) : Vec Ideal S4096x128 .f32) (ix2 ⟨r.val % 4096, Nat.mod_lt _ (by decide)⟩ e)
      = input m c (ix2 r e) := by
  unfold iblk
  rw [show V m c (Pipeline.arrRef spec0 2) = m (c.tc.loc main_arg0) from V_main_arg0 m c]
  refine congrArg (m (c.tc.loc main_arg0)) (funext fun a => Fin.ext ?_)
  match a with
  | ⟨0, _⟩ =>
    show (cfg0.win 2).index (step u) (0 : Fin 2) * 4096 + 1 * (r.val % 4096) = r.val
    rw [block_row]
    omega
  | ⟨1, _⟩ => show 0 * 128 + 1 * e.val = e.val; omega

/-- THE RESULT at row `r` of a column whose words are the numbers `j`. -/
theorem result_at (c : Dev nD) (r : Fin 16384) (q : Fin 129) (j : Fin 8 → Fin 16)
    (hj : ∀ i, slots (m (c.tc.loc main_arg2)) (ix2 i ⟨q.val, by omega⟩) = BitVec.ofNat 32 (j i).val) :
    (result m c : FVec Ideal S16384x129 .f32) (ix2 r q)
      = (∑ e : Fin 128, input m c (ix2 r e)
          * ∑ i, rows (m (c.tc.loc main_arg1)) (ix2 e (j i))) * (((Real.sqrt 128)⁻¹ : ℝ) : EReal) := by
  refine (pay3_at _ _ _ _).trans ?_
  rw [Counts.sum_mul_real _ _ (inv_nonneg.2 (Real.sqrt_nonneg _))]
  refine Finset.sum_congr rfl fun e _ => ?_
  rw [mul_assoc]
  refine congrArg₂ (· * ·) (input_block m c _ r e rfl) ?_
  unfold proj
  rw [words_block, rows_block, V_idx, V_rows]
  exact projOf_at _ _ e _ j hj

end Cert.KernelIdeal.Copies

end
-- ==== Proof.RootOf128.lean ====
/- The one literal the reference takes a root of: the pattern of 128.0 is the real 128 at the ideal values, and its root the real root. -/
module

public import Idealize.ShloMosaic.PureOps.Ideal

@[expose] public section

noncomputable section

namespace Cert.Root

open Idealize.ShloMosaic

/-- The root of the literal 128.0. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num)]

end Cert.Root

end
-- ==== Proof.ReferenceIdeal.Value.lean ====
/- What the reference's result is, entry by entry, at the ideal values: a row of the input times a row of the composed table, divided by
   the root of 128. The composed table's first row is the first feature, its row `q + 1` the sum of phone `q`'s seven features. The
   words are asked to be numbers below fifteen: then the wrap of a negative word leaves them alone and the gather's clamp does not
   move them. -/
module

public import proofs.«01_k».proof.Proof.Gen.ReferenceIdeal.Run
public import proofs.«01_k».proof.Proof.RootOf128
public import Idealize.ShloMosaic.Lib.Pointwise
public import Idealize.ShloMosaic.Lib.Routing.OpsPair

@[expose] public section

set_option maxRecDepth 16384

noncomputable section

namespace Cert.ReferenceIdeal.Value

open Cert.ReferenceIdeal.Gen
open Idealize.ShloMosaic Idealize.ShloMosaic.TcCoe Idealize.ShloMosaic.Tactic Idealize.SL.Sem

/-- The phones' rows: the first feature's, then each phone's sum of its features'. -/
def composed (w : FVec Ideal S15x128 .f32) (t : IVec S128x7 32) : FVec Ideal S129x128 .f32 :=
  concatenate S129x128 0 [⟨S1x128, (extractStridedSlice S1x128 ![0, 0] w slices_S15x128_S1x128_0_0)⟩, ⟨S128x128, (Host.reduceAdd (Host.gather gather_S15x128_S128x7x1_S128x7x128_2_0_n_n_0_2_1128 w (broadcastInDim S128x7x1 ![0, 1] bcast_S128x7_S128x7x1_0_1 (select (cmpi .slt t (broadcastInDim S128x7 ![] bcast_S_S128x7 (constantI S_ 32 0#32))) (addi t (broadcastInDim S128x7 ![] bcast_S_S128x7 (constantI S_ 32 15#32))) t))) (constant (F := Ideal) S_ .f32 0x00000000#32) reducesTo_S128x7x128_S128x128_d1 h_S_)⟩] concatenates_S1x128_S128x128_S129x128_d0

/-- The reference's result. -/
def answer (x : FVec Ideal S16384x128 .f32) (w : FVec Ideal S15x128 .f32) (t : IVec S128x7 32) : FVec Ideal S16384x129 .f32 :=
  Host.divf (F := Ideal) (Host.dotGeneral dot_S16384x128_S128x129_S16384x129_1_0_0_1_n_n none x (transpose S128x129 [1, 0] (composed w t) transposes_S129x128_S128x129_1_0)) (broadcastInDim S16384x129 ![] bcast_S_S16384x129 (Host.sqrt (constant (F := Ideal) S_ .f32 0x43000000#32)))

/-- The result at `(r, c)`. -/
theorem answer_at (x : FVec Ideal S16384x128 .f32) (w : FVec Ideal S15x128 .f32) (t : IVec S128x7 32) (r : Fin 16384) (c : Fin 129) :
    answer x w t (ix2 r c) = (∑ e : Fin 128, x (ix2 r e) * composed w t (ix2 c e)) * (((Real.sqrt 128)⁻¹ : ℝ) : EReal) := by
  unfold answer
  pointwise
  rw [Root.sqrt_128, Ideal.div_coe (Real.sqrt_pos.mpr (by norm_num)).ne', one_div]

/-- The gather where its word is the number `b`: feature `b`. -/
theorem gather_at (w : FVec Ideal S15x128 .f32) (idx : IVec S128x7x1 32) (q : Fin 128) (i : Fin 7) (e : Fin 128) (b : Fin 15) (hb : idx (ix3 q i (0 : Fin 1)) = BitVec.ofNat 32 b.val) :
   Host.gather gather_S15x128_S128x7x1_S128x7x128_2_0_n_n_0_2_1128 w idx (ix3 q i e) = w (ix2 b e) := by
  unfold Host.gather
  refine congrArg w (funext fun a => Fin.ext ?_)
  match a with
  | ⟨0, _⟩ =>
    show GatherDims.start gather_S15x128_S128x7x1_S128x7x128_2_0_n_n_0_2_1128 (ix3 q i e) idx (0 : Fin 2) + 0 + 0 = b.val
    have : gather_S15x128_S128x7x1_S128x7x128_2_0_n_n_0_2_1128.start (ix3 q i e) idx (0 : Fin 2) = min (idx (ix3 q i (0 : Fin 1))).toInt.toNat 14 := by
      unfold GatherDims.start
      rw [dif_pos (by decide)]
      refine congrArg (fun z => min (idx z).toInt.toNat 14) (funext fun a => Fin.ext ?_)
      match a with
      | ⟨0, _⟩ => rfl
      | ⟨1, _⟩ => rfl
      | ⟨2, _⟩ => rfl
    rw [this, hb, StableHlo.Predicate.toInt_ofNat_small _ (by omega)]
    omega
  | ⟨1, _⟩ =>
    show 0 + 0 + e.val = e.val
    omega

/-- The first row. -/
theorem composed_zero (w : FVec Ideal S15x128 .f32) (t : IVec S128x7 32) (e : Fin 128) : composed w t (ix2 0 e) = w (ix2 0 e) := by
  unfold composed
  pointwise

/-- A phone's row. -/
theorem composed_succ (w : FVec Ideal S15x128 .f32) (t : IVec S128x7 32) (e : Fin 128) (q : Fin 128) (b : Fin 7 → Fin 15)
    (hb : ∀ i, t (ix2 q i) = BitVec.ofNat 32 (b i).val) : composed w t (ix2 ⟨q.val + 1, by omega⟩ e) = ∑ i : Fin 7, w (ix2 (b i) e) := by
  unfold composed
  pointwise
  rw [dif_neg (by omega)]
  refine Finset.sum_congr rfl fun i _ => ?_
  refine gather_at w _ q i e (b i) ?_
  have hlt := (b i).isLt
  pointwise
  refine (congrArg (fun z => Scalar.select (IntOp.cmpi .slt z 0#32) (IntOp.addi z 15#32) z) (hb i)).trans ?_
  exact Routing.wrap_of_lt _ _ (by rw [BitVec.toNat_ofNat, Nat.mod_eq_of_lt (by omega)]; omega)

/-- THE RUN: the result is `answer` of the arguments, which stay. -/
theorem answers (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = answer (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.ReferenceIdeal.Value

end
-- ==== Proof.Words.lean ====
/- What the precondition says: every word of the feature table is a number below fifteen. -/
module

public import proofs.«01_k».proof.Proof.Gen.Pre_rows_of_weight
public import Idealize.ShloMosaic.Lib.Pointwise.Index
public import Idealize.ShloMosaic.Lib.ReduceAll
public import Idealize.ShloMosaic.Lib.StableHlo.Predicate
public import Idealize.ShloMosaic.Lib.WordArith

@[expose] public section

noncomputable section

namespace Cert.Words

open Idealize.ShloMosaic Idealize.ShloMosaic.Tactic Cert.Pre_rows_of_weight

/-- The words of a table that meets the precondition, as numbers. -/
theorem numbers {F : FTy → Type} [FloatOps F] (x : FVec F S16384x128 .f32) (w : FVec F S15x128 .f32) (t : IVec S128x7 32)
    (h : fn x w t = fun _ => 1#1) : ∃ b : Fin 128 → Fin 7 → Fin 15, ∀ q i, t (ix2 q i) = BitVec.ofNat 32 (b q i).val := by
  have : Subsingleton S_.Idx := ⟨fun a b => funext fun d => d.elim0⟩
  have key : ∀ q i, (t (ix2 q i)).toNat < 15 := by
    intro q i
    have hd := congrFun h (fun a => a.elim0)
    unfold fn at hd
    have hq : IntOp.andi (IntOp.cmpi .sge (t (ix2 q i)) 0#32) (IntOp.cmpi .slt (t (ix2 q i)) 15#32) = 1#1 :=
      Host.reduce_andi_all _ _ _ _ _ hd (ix2 q i)
    obtain ⟨h0, h1⟩ := IntOp.andi_eq_one.1 hq
    exact WordArith.toNat_lt_of_zero_sle_of_slt_ofNat _ 15 (by decide)
      ((StableHlo.Predicate.ofBool_eq_one_iff _).1 h0) ((StableHlo.Predicate.ofBool_eq_one_iff _).1 h1)
  exact ⟨fun q i => ⟨_, key q i⟩, fun q i => BitVec.eq_of_toNat_eq (by simp)⟩

end Cert.Words

end
-- ==== Proof.Agree.lean ====
/- The two results are one array. At row `r` and column `c` both are a row of the input times a row of features, times the reciprocal
   of the root of 128. The kernel's row of features is the sum of the eight its words name: at column 0 the first feature and seven
   times the row of zeros, at column `q + 1` phone `q`'s seven features and once the row of zeros. That is row `c` of the composed
   table. -/
module

public import proofs.«01_k».proof.Proof.KernelIdeal.Value
public import proofs.«01_k».proof.Proof.ReferenceIdeal.Value
public import proofs.«01_k».proof.Proof.Words

@[expose] public section

noncomputable section

namespace Cert.Agree

open Idealize.ShloMosaic Idealize.ShloMosaic.TcCoe Idealize.ShloMosaic.Tactic
open Cert.KernelIdeal Cert.KernelIdeal.Copies
open Cert.ReferenceIdeal.Value (answer answer_at composed composed_zero composed_succ)

variable (w : FVec Ideal S15x128 .f32) (t : IVec S128x7 32)

/-- Column 0: the first feature. -/
theorem first_column : ∃ j : Fin 8 → Fin 16, (∀ i, slots t (ix2 i 0) = BitVec.ofNat 32 (j i).val)
    ∧ ∀ e, ∑ i, rows w (ix2 e (j i)) = composed w t (ix2 0 e) := by
  refine ⟨fun i => if i = 0 then 0 else 15, fun i => ?_, fun e => ?_⟩
  · rw [slots_zero]; beta_reduce; split <;> rfl
  · rw [composed_zero, Finset.sum_eq_single (0 : Fin 8)]
    · beta_reduce; rw [if_pos rfl, rows_at, dif_pos (by decide)]; rfl
    · intro i _ hi
      beta_reduce
      rw [if_neg hi, rows_at, dif_neg (by decide)]
    · exact fun h => absurd (Finset.mem_univ _) h

/-- Column `q + 1`: phone `q`. -/
theorem phone_column (b : Fin 128 → Fin 7 → Fin 15) (hb : ∀ q i, t (ix2 q i) = BitVec.ofNat 32 (b q i).val) (q : Fin 128) :
    ∃ j : Fin 8 → Fin 16, (∀ i, slots t (ix2 i ⟨q.val + 1, by omega⟩) = BitVec.ofNat 32 (j i).val)
      ∧ ∀ e, ∑ i, rows w (ix2 e (j i)) = composed w t (ix2 ⟨q.val + 1, by omega⟩ e) := by
  refine ⟨fun i => if h : i.val < 7 then (b q ⟨i.val, h⟩).castSucc else 15, fun i => ?_, fun e => ?_⟩
  · rw [slots_succ]
    beta_reduce
    split
    · exact hb q _
    · rfl
  · rw [composed_succ w t e q (b q) (hb q), Fin.sum_univ_castSucc]
    beta_reduce
    have last : ¬ (Fin.last 7).val < 7 := by decide
    rw [dif_neg last, rows_at _ _ 15, dif_neg (by decide), add_zero]
    refine Finset.sum_congr rfl fun i _ => ?_
    rw [dif_pos (show i.castSucc.val < 7 from i.isLt), rows_at]
    exact dif_pos (b q i).isLt

/-- Every column. -/
theorem column (b : Fin 128 → Fin 7 → Fin 15) (hb : ∀ q i, t (ix2 q i) = BitVec.ofNat 32 (b q i).val) (c : Fin 129) :
    ∃ j : Fin 8 → Fin 16, (∀ i, slots t (ix2 i ⟨c.val, by omega⟩) = BitVec.ofNat 32 (j i).val)
      ∧ ∀ e, ∑ i, rows w (ix2 e (j i)) = composed w t (ix2 c e) := by
  obtain ⟨c, hc⟩ := c
  cases c with
  | zero => exact first_column w t
  | succ q => exact phone_column w t b hb ⟨q, by omega⟩

/-- THE RESULTS AGREE where the table's words are numbers below fifteen. -/
theorem results (m : (ℓ : Loc nD τ sig) → Buf (Elt Ideal) ℓ) (c : Dev nD) (b : Fin 128 → Fin 7 → Fin 15)
    (hb : ∀ q i, (m (c.tc.loc main_arg2) : IVec S128x7 32) (ix2 q i) = BitVec.ofNat 32 (b q i).val) :
    answer (m (c.tc.loc main_arg0)) (m (c.tc.loc main_arg1)) (m (c.tc.loc main_arg2)) = result m c := by
  funext y
  obtain ⟨r, q, rfl⟩ : ∃ (r : Fin 16384) (q : Fin 129), y = ix2 r q := ⟨y 0, y 1, by idx_ext⟩
  obtain ⟨j, hj, hs⟩ := column (m (c.tc.loc main_arg1)) (m (c.tc.loc main_arg2)) b hb q
  refine (answer_at _ _ _ r q).trans (Eq.trans ?_ (result_at m c r q j hj).symm)
  simp only [hs]

end Cert.Agree

end
-- ==== Proof.lean ====
/- The claim, assembled: the kernel's run (Proof/KernelIdeal/Run.lean) gives both its frames and, by Proof/SameProgram.lean, the frame
   of the kernel as written; the reference's run gives its frames; the named scale is the certificate's entry; and the results are one
   array (Proof/Agree.lean) where the precondition holds (Proof/Words.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_of_weight
public import proofs.«01_k».proof.Proof.SameProgram
public import proofs.«01_k».proof.Proof.Agree
public import Idealize.ShloMosaic.Lib.Quiescent

@[expose] public section

noncomputable section

namespace Cert.Proof

open Idealize.ShloMosaic Idealize.ShloMosaic.TcCoe Idealize.SL.Sem

/-- The kernel's frame, at any float values. -/
theorem kernel_frame {F : FTy → Type} [FloatOps F] [Named F]
    (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) ⟨m, fun _ => 0, ρ⟩ (fun r =>
      (∀ c : Dev KernelIdeal.nD, r.2.mem (c.tc.loc KernelIdeal.main_arg0) = m (c.tc.loc KernelIdeal.main_arg0)
        ∧ r.2.mem (c.tc.loc KernelIdeal.main_arg1) = m (c.tc.loc KernelIdeal.main_arg1)
        ∧ r.2.mem (c.tc.loc KernelIdeal.main_arg2) = m (c.tc.loc KernelIdeal.main_arg2)) ∧ r.2.sem = fun _ => 0) :=
  (θ_run KernelIdeal.defs _ _).mono (fun _ h => ⟨fun c => (h.1 c).1, h.2⟩) (KernelIdeal.Copies.runs m ρ)

/-- The reference's frame. -/
theorem reference_frame : Cert.quiescent_ReferenceIdeal := fun m ρ _ =>
  (θ_run ReferenceIdeal.defs _ _).mono (fun r h => ⟨fun c => (h c).2, sem_eq_zero_of_no_sems (by decide) r.2⟩)
    (ReferenceIdeal.Value.answers m ρ)

/-- At the ideal values the kernel's result is the reference's, of arguments that agree and meet the precondition. -/
theorem algebraic : Cert.algebraic_KernelIdeal_ReferenceIdeal_pre_rows_of_weight := by
  intro m ρ m' ρ' hpre hagree
  refine ⟨KernelIdeal.Copies.result m, ?_, ?_⟩
  · exact (θ_run KernelIdeal.defs _ _).mono (fun _ h c => ⟨(h.1 c).2, (h.1 c).1⟩) (KernelIdeal.Copies.runs m ρ)
  · refine (θ_run ReferenceIdeal.defs _ _).mono (fun _ h c => ⟨(h c).1.trans ?_, (h c).2⟩) (ReferenceIdeal.Value.answers m' ρ')
    obtain ⟨b, hb⟩ := Words.numbers _ _ _ (hpre c)
    rw [(hagree c).1, (hagree c).2.1, (hagree c).2.2]
    exact Agree.results m c b hb

/-- The claim. -/
theorem claim : Cert.Claim :=
  ⟨Cert.Kernel.Gen.facts, Cert.KernelIdeal.Gen.facts, Cert.ReferenceIdeal.Gen.facts, Cert.Pre_rows_of_weight.Gen.facts,
    Same.transfer fun m g => @kernel_frame Bits _ Same.printed m g,
    fun m g _ => kernel_frame m g, fun m g _ => kernel_frame m g,
    reference_frame, fun m g _ => reference_frame m g trivial,
    IdealRules.named_const.statement Cert.KernelIdeal.κ "inv_sqrt128" .f32 0x3DB504F3#32 (((Real.sqrt 128)⁻¹ : ℝ) : EReal) rfl,
    algebraic⟩

end Cert.Proof

end
